-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ignored [hPre_no_ignored : Cert.Pre_no_ignored.Facts] (m : (ℓ : Loc Cert.KernelIdeal.nD Cert.KernelIdeal.τ Cert.KernelIdeal.sig) → Buf (Elt Ideal) ℓ) : Prop :=
  ∀ c : Dev Cert.KernelIdeal.nD,
    (Cert.Pre_no_ignored.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ignored [hPre_no_ignored : Cert.Pre_no_ignored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ignored.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_ignored [hKernelIdeal : Cert.KernelIdeal.Facts] [hPre_no_ignored : Cert.Pre_no_ignored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ignored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_ignored [hReferenceIdeal : Cert.ReferenceIdeal.Facts] [hPre_no_ignored : Cert.Pre_no_ignored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ignored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_ignored [hKernelIdeal : Cert.KernelIdeal.Facts] [hReferenceIdeal : Cert.ReferenceIdeal.Facts] [hPre_no_ignored : Cert.Pre_no_ignored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ignored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_ignored : Cert.Pre_no_ignored.Facts),
    quiescent_Kernel (hKernel := hKernel)
    ∧ quiescent_KernelIdeal (hKernelIdeal := hKernelIdeal)
    ∧ quiescent_KernelIdeal_pre_no_ignored (hKernelIdeal := hKernelIdeal) (hPre_no_ignored := hPre_no_ignored)
    ∧ quiescent_ReferenceIdeal (hReferenceIdeal := hReferenceIdeal)
    ∧ quiescent_ReferenceIdeal_pre_no_ignored (hReferenceIdeal := hReferenceIdeal) (hPre_no_ignored := hPre_no_ignored)
    ∧ preserves_Kernel_KernelIdeal
    ∧ algebraic_KernelIdeal_ReferenceIdeal_pre_no_ignored (hKernelIdeal := hKernelIdeal) (hReferenceIdeal := hReferenceIdeal) (hPre_no_ignored := hPre_no_ignored)
-- ==== Pre_no_ignored.lean ====
abbrev S4x19x512x1024 : Shape := ⟨4, ![4, 19, 512, 1024]⟩
abbrev S_ : Shape := ⟨0, ![]⟩
abbrev S4x512x1024 : Shape := ⟨3, ![4, 512, 1024]⟩

class Facts : Prop where
  reducesTo_S4x19x512x1024_S4x512x1024_d1 : S4x19x512x1024.ReducesTo [1] S4x512x1024
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_

variable [Facts]

def fn {F : FTy → Type} [FloatOps F] (main_arg0 : FVec F S4x19x512x1024 .f32) : IVec S_ 1 :=
  let main_cst : FVec F S_ .f32 := constant S_ .f32 0xFF800000#32
  let main_v0 : FVec F S4x512x1024 .f32 := (fun x v => Host.reduce FloatOps.maximumf x v reducesTo_S4x19x512x1024_S4x512x1024_d1 h_S_) main_arg0 main_cst
  let main_cst_0 : FVec F S_ .f32 := constant S_ .f32 0xBF800000#32
  let main_v1 : FVec F S4x512x1024 .f32 := broadcastInDim S4x512x1024 ![] bcast_S_S4x512x1024 main_cst_0
  let main_v2 : IVec S4x512x1024 1 := cmpf .une main_v0 main_v1
  let main_c : IVec S_ 1 := constantI S_ 1 1#1
  let main_v3 : IVec S_ 1 := (fun x v => Host.reduce IntOp.andi x v reducesTo_S4x512x1024_S_d0_1_2 h_S_) main_v2 main_c
  main_v3
-- ==== Kernel.lean ====
abbrev S4x19x512x1024 : Shape := ⟨4, ![4, 19, 512, 1024]⟩
abbrev S1x1 : Shape := ⟨2, ![1, 1]⟩
abbrev S1x19x8x1024 : Shape := ⟨4, ![1, 19, 8, 1024]⟩
abbrev S8x19 : Shape := ⟨2, ![8, 19]⟩
abbrev S19x8x1024 : Shape := ⟨3, ![19, 8, 1024]⟩
abbrev S1x8x1024 : Shape := ⟨3, ![1, 8, 1024]⟩
abbrev S8x1024 : Shape := ⟨2, ![8, 1024]⟩
abbrev S19 : Shape := ⟨1, ![19]⟩
abbrev S1x19 : Shape := ⟨2, ![1, 19]⟩
abbrev S8 : Shape := ⟨1, ![8]⟩
abbrev S8x1 : Shape := ⟨2, ![8, 1]⟩
abbrev S1x8x19 : Shape := ⟨3, ![1, 8, 19]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 4
  | .smem => 1
  | _ => 0

abbrev bufTy : (tb : Table) → Fin (tcTables nBuf tb) → BufTy
  | .hbm, ⟨0, _⟩ => ⟨S4x19x512x1024, .f32⟩
  | .hbm, ⟨1, _⟩ => ⟨S1x1, .f32⟩
  | .hbm, ⟨2, _⟩ => ⟨S_, .f32⟩
  | .local _ .vmem, ⟨0, _⟩ => ⟨S1x19x8x1024, .f32⟩
  | .local _ .vmem, ⟨1, _⟩ => ⟨S1x19x8x1024, .f32⟩
  | .local _ .vmem, ⟨2, _⟩ => ⟨S8x19, .f32⟩
  | .local _ .vmem, ⟨3, _⟩ => ⟨S8x19, .f32⟩
  | .local _ .smem, ⟨0, _⟩ => ⟨S1x1, .f32⟩
  | _, _ => ⟨S4x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg0 : BitVec 32 := BitVec.ofNat 32 (i 0).val
  let c3_i32_18 : BitVec 32 := 3#32
  let v192 : BitVec 1 := Scalar.cmpi .eq arg0 c3_i32_18
  let arg1 : BitVec 32 := BitVec.ofNat 32 (i 1).val
  let c63_i32 : BitVec 32 := 63#32
  let v193 : BitVec 1 := Scalar.cmpi .eq arg1 c63_i32
  let v194 : BitVec 1 := Scalar.andi v192 v193
  let v195 : BitVec 32 := Scalar.extui v194
  let c0_i32_19 : BitVec 32 := 0#32
  let v196 : BitVec 1 := Scalar.cmpi .ne v195 c0_i32_19
  v196

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S4x19x512x1024 : Shape := ⟨4, ![4, 19, 512, 1024]⟩
abbrev S_ : Shape := ⟨0, ![]⟩
abbrev S4x512x1024 : Shape := ⟨3, ![4, 512, 1024]⟩
abbrev S20 : Shape := ⟨1, ![20]⟩
abbrev S1 : Shape := ⟨1, ![1]⟩
abbrev S21 : Shape := ⟨1, ![21]⟩
abbrev S4x512x1024x1 : Shape := ⟨4, ![4, 512, 1024, 1]⟩
abbrev S1x1x20 : Shape := ⟨3, ![1, 1, 20]⟩
abbrev S1x1x1x20 : Shape := ⟨4, ![1, 1, 1, 20]⟩
abbrev S4x512x1024x20 : Shape := ⟨4, ![4, 512, 1024, 20]⟩
abbrev S4x20 : Shape := ⟨2, ![4, 20]⟩
abbrev S4x19 : Shape := ⟨2, ![4, 19]⟩
abbrev S4 : Shape := ⟨1, ![4]⟩
abbrev S4x1 : Shape := ⟨2, ![4, 1]⟩
abbrev S1x1 : Shape := ⟨2, ![1, 1]⟩
abbrev S4x1x512x1024 : Shape := ⟨4, ![4, 1, 512, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x19x512x1024, .f32⟩
  | .hbm, ⟨1, _⟩ => ⟨S_, .f32⟩
  | .hbm, ⟨2, _⟩ => ⟨S4x512x1024, .f32⟩
  | .hbm, ⟨3, _⟩ => ⟨S4x19x512x1024, .i32⟩
  | .hbm, ⟨4, _⟩ => ⟨S_, .f32⟩
  | .hbm, ⟨5, _⟩ => ⟨S_, .i32⟩
  | .hbm, ⟨6, _⟩ => ⟨S4x512x1024, .f32⟩
  | .hbm, ⟨7, _⟩ => ⟨S4x512x1024, .i32⟩
  | .hbm, ⟨8, _⟩ => ⟨S_, .f32⟩
  | .hbm, ⟨9, _⟩ => ⟨S4x512x1024, .f32⟩
  | .hbm, ⟨10, _⟩ => ⟨S4x512x1024, .i1⟩
  | .hbm, ⟨11, _⟩ => ⟨S_, .i32⟩
  | .hbm, ⟨12, _⟩ => ⟨S4x512x1024, .i32⟩
  | .hbm, ⟨13, _⟩ => ⟨S4x512x1024, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S20, .f32⟩
  | .hbm, ⟨22, _⟩ => ⟨S_, .f32⟩
  | .hbm, ⟨23, _⟩ => ⟨S20, .f32⟩
  | .hbm, ⟨24, _⟩ => ⟨S20, .f32⟩
  | .hbm, ⟨25, _⟩ => ⟨S1, .f32⟩
  | .hbm, ⟨26, _⟩ => ⟨S_, .f32⟩
  | .hbm, ⟨27, _⟩ => ⟨S20, .f32⟩
  | .hbm, ⟨28, _⟩ => ⟨S20, .f32⟩
  | .hbm, ⟨29, _⟩ => ⟨S20, .f32⟩
  | .hbm, ⟨30, _⟩ => ⟨S20, .f32⟩
  | .hbm, ⟨31, _⟩ => ⟨S1, .f32⟩
  | .hbm, ⟨32, _⟩ => ⟨S20, .f32⟩
  | .hbm, ⟨33, _⟩ => ⟨S20, .f32⟩
  | .hbm, ⟨34, _⟩ => ⟨S20, .f32⟩
  | .hbm, ⟨35, _⟩ => ⟨S1, .f32⟩
  | .hbm, ⟨36, _⟩ => ⟨S21, .f32⟩
  | .hbm, ⟨37, _⟩ => ⟨S4x512x1024, .f32⟩
  | .hbm, ⟨38, _⟩ => ⟨S4x512x1024x1, .f32⟩
  | .hbm, ⟨39, _⟩ => ⟨S20, .i32⟩
  | .hbm, ⟨40, _⟩ => ⟨S_, .i32⟩
  | .hbm, ⟨41, _⟩ => ⟨S20, .i32⟩
  | .hbm, ⟨42, _⟩ => ⟨S20, .i1⟩
  | .hbm, ⟨43, _⟩ => ⟨S20, .f32⟩
  | .hbm, ⟨44, _⟩ => ⟨S1x1x20, .f32⟩
  | .hbm, ⟨45, _⟩ => ⟨S1x1x1x20, .f32⟩
  | .hbm, ⟨46, _⟩ => ⟨S4x512x1024x20, .f32⟩
  | .hbm, ⟨47, _⟩ => ⟨S4x512x1024x20, .f32⟩
  | .hbm, ⟨48, _⟩ => ⟨S4x512x1024x20, .i1⟩
  | .hbm, ⟨49, _⟩ => ⟨S20, .f32⟩
  | .hbm, ⟨50, _⟩ => ⟨S1x1x20, .f32⟩
  | .hbm, ⟨51, _⟩ => ⟨S1x1x1x20, .f32⟩
  | .hbm, ⟨52, _⟩ => ⟨S4x512x1024x20, .f32⟩
  | .hbm, ⟨53, _⟩ => ⟨S4x512x1024x20, .f32⟩
  | .hbm, ⟨54, _⟩ => ⟨S4x512x1024x20, .i1⟩
  | .hbm, ⟨55, _⟩ => ⟨S20, .f32⟩
  | .hbm, ⟨56, _⟩ => ⟨S1x1x20, .f32⟩
  | .hbm, ⟨57, _⟩ => ⟨S1x1x1x20, .f32⟩
  | .hbm, ⟨58, _⟩ => ⟨S4x512x1024x20, .f32⟩
  | .hbm, ⟨59, _⟩ => ⟨S4x512x1024x20, .f32⟩
  | .hbm, ⟨60, _⟩ => ⟨S4x512x1024x20, .i1⟩
  | .hbm, ⟨61, _⟩ => ⟨S1x1x20, .i1⟩
  | .hbm, ⟨62, _⟩ => ⟨S1x1x1x20, .i1⟩
  | .hbm, ⟨63, _⟩ => ⟨S4x512x1024x20, .i1⟩
  | .hbm, ⟨64, _⟩ => ⟨S4x512x1024x20, .i1⟩
  | .hbm, ⟨65, _⟩ => ⟨S4x512x1024x20, .i1⟩
  | .hbm, ⟨66, _⟩ => ⟨S4x512x1024x20, .i1⟩
  | .hbm, ⟨67, _⟩ => ⟨S4x512x1024x20, .f32⟩
  | .hbm, ⟨68, _⟩ => ⟨S_, .f32⟩
  | .hbm, ⟨69, _⟩ => ⟨S4x20, .f32⟩
  | .hbm, ⟨70, _⟩ => ⟨S4x19, .f32⟩
  | .hbm, ⟨71, _⟩ => ⟨S_, .f32⟩
  | .hbm, ⟨72, _⟩ => ⟨S4x19, .f32⟩
  | .hbm, ⟨73, _⟩ => ⟨S4x19, .f32⟩
  | .hbm, ⟨74, _⟩ => ⟨S_, .f32⟩
  | .hbm, ⟨75, _⟩ => ⟨S4, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4x1, .f32⟩
  | .hbm, ⟨80, _⟩ => ⟨S4x19, .f32⟩
  | .hbm, ⟨81, _⟩ => ⟨S4x19, .f32⟩
  | .hbm, ⟨82, _⟩ => ⟨S_, .f32⟩
  | .hbm, ⟨83, _⟩ => ⟨S1, .f32⟩
  | .hbm, ⟨84, _⟩ => ⟨S1x1, .f32⟩
  | .hbm, ⟨85, _⟩ => ⟨S4x19, .f32⟩
  | .hbm, ⟨86, _⟩ => ⟨S4x19, .f32⟩
  | .hbm, ⟨87, _⟩ => ⟨S_, .f32⟩
  | .hbm, ⟨88, _⟩ => ⟨S4x19, .f32⟩
  | .hbm, ⟨89, _⟩ => ⟨S4x19, .f32⟩
  | .hbm, ⟨90, _⟩ => ⟨S_, .i32⟩
  | .hbm, ⟨91, _⟩ => ⟨S4x512x1024, .i32⟩
  | .hbm, ⟨92, _⟩ => ⟨S4x512x1024, .i1⟩
  | .hbm, ⟨93, _⟩ => ⟨S_, .i32⟩
  | .hbm, ⟨94, _⟩ => ⟨S4x512x1024, .i32⟩
  | .hbm, ⟨95, _⟩ => ⟨S4x512x1024, .i32⟩
  | .hbm, ⟨96, _⟩ => ⟨S4x512x1024, .i32⟩
  | .hbm, ⟨97, _⟩ => ⟨S4x512x1024x1, .i32⟩
  | .hbm, ⟨98, _⟩ => ⟨S4x512x1024, .f32⟩
  | .hbm, ⟨99, _⟩ => ⟨S4x1x512x1024, .f32⟩
  | .hbm, ⟨100, _⟩ => ⟨S4x19x512x1024, .f32⟩
  | .hbm, ⟨101, _⟩ => ⟨S4x1x512x1024, .i1⟩
  | .hbm, ⟨102, _⟩ => ⟨S4x19x512x1024, .i1⟩
  | .hbm, ⟨103, _⟩ => ⟨S4x19x512x1024, .f32⟩
  | .hbm, ⟨104, _⟩ => ⟨S4x19x512x1024, .f32⟩
  | .hbm, ⟨105, _⟩ => ⟨S_, .f32⟩
  | .hbm, ⟨106, _⟩ => ⟨S_, .f32⟩
  | .hbm, ⟨107, _⟩ => ⟨S4x19x512x1024, .f32⟩
  | .hbm, ⟨108, _⟩ => ⟨S4x19x512x1024, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S4x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call1_v0 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_cst : Ref sig .tc := ⟨.hbm, 19, rfl⟩
abbrev main_call2_v3 : Ref sig .tc := ⟨.hbm, 20, rfl⟩
abbrev main_call2_v4 : Ref sig .tc := ⟨.hbm, 21, rfl⟩
abbrev main_call2_cst_0 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_cst_1 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_v12 : Ref sig .tc := ⟨.hbm, 31, rfl⟩
abbrev main_call2_v13 : Ref sig .tc := ⟨.hbm, 32, rfl⟩
abbrev main_call2_v14 : Ref sig .tc := ⟨.hbm, 33, rfl⟩
abbrev main_call2_v15 : Ref sig .tc := ⟨.hbm, 34, rfl⟩
abbrev main_call2_v16 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_c_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_9 : Ref sig .tc := ⟨.hbm, 87, rfl⟩
abbrev main_v50 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_c_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_12 : Ref sig .tc := ⟨.hbm, 105, rfl⟩
abbrev main_call3_v0 : Ref sig .tc := ⟨.hbm, 106, rfl⟩
abbrev main_call3_v1 : Ref sig .tc := ⟨.hbm, 107, rfl⟩
abbrev main_v65 : Ref sig .tc := ⟨.hbm, 108, rfl⟩
abbrev main_cst_13 : Ref sig .tc := ⟨.hbm, 109, rfl⟩
abbrev main_v66 : Ref sig .tc := ⟨.hbm, 110, rfl⟩
abbrev main_v67 : Ref sig .tc := ⟨.hbm, 111, rfl⟩
abbrev main_cst_14 : Ref sig .tc := ⟨.hbm, 112, rfl⟩
abbrev main_v68 : Ref sig .tc := ⟨.hbm, 113, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Lib.Claim
public import Idealize.ShloMosaic.Lib.Pointwise

@[expose] public section

set_option maxRecDepth 16384

/-! The reference's run: its result as a composition of a few named arrays. -/

noncomputable section

namespace Cert.ReferenceIdeal.Own

open Idealize.ShloMosaic Idealize.ShloMosaic.TcCoe Idealize.ShloMosaic.Tactic Idealize.SL.Sem
open Cert.ReferenceIdeal Cert.ReferenceIdeal.Gen

/-- The greatest score of each pixel. -/
def maxOf (x : FVec Ideal S4x19x512x1024 .f32) : FVec Ideal S4x512x1024 .f32 :=
  Host.reduce FloatOps.maximumf x (constant S_ .f32 0xFF800000#32) reducesTo_S4x19x512x1024_S4x512x1024_d1 h_S_

/-- Where a pixel's greatest score is not the ignored value. -/
def maskOf (x : FVec Ideal S4x19x512x1024 .f32) : IVec S4x512x1024 1 :=
  cmpf .une (maxOf x) (broadcastInDim S4x512x1024 ![] bcast_S_S4x512x1024 (constant S_ .f32 0xBF800000#32))

/-- The second members of a family of pairs. -/
def seconds {α β γ : Type} (f : α → β × γ) : α → γ := fun j => (f j).2

/-- Each pixel's greatest score with the first class that has it. -/
def pairOf (x : FVec Ideal S4x19x512x1024 .f32) : S4x512x1024.Idx → Ideal .f32 × BitVec 32 :=
  Host.argReduce reducer_argmax_f32_i32 x (iotaInDim S4x19x512x1024 32 1) (constant S_ .f32 0xFF800000#32)
    (constantI S_ 32 0#32) reducesTo_S4x19x512x1024_S4x512x1024_d1 h_S_

/-- Each pixel's first class with the greatest score. -/
def argOf (x : FVec Ideal S4x19x512x1024 .f32) : IVec S4x512x1024 32 := seconds (pairOf x)

/-- Each pixel's label: its class, or the ignored label. -/
def labelOf (x : FVec Ideal S4x19x512x1024 .f32) : IVec S4x512x1024 32 :=
  select (maskOf x) (argOf x) (broadcastInDim S4x512x1024 ![] bcast_S_S4x512x1024 (constantI S_ 32 4294967295#32))

/-- The fractions at which the bin edges stand. -/
def fractions : FVec Ideal S20 .f32 :=
  Host.divf (sitofp .f32 (iotaInDim S20 32 0)) (broadcastInDim S20 ![] bcast_S_S20 (constant S_ .f32 0x41A00000#32))

/-- The bin edges. -/
def edges : FVec Ideal S21 .f32 :=
  concatenate S21 0
    [⟨S20, addf
      (mulf (broadcastInDim S20 ![0] bcast_S1_S20_0 (shapeCast S1 (id (constant S_ .f32 0xBF800000#32)) shapeCasts_S_S1))
        (subf (broadcastInDim S20 ![] bcast_S_S20 (constant S_ .f32 0x3F800000#32)) fractions))
      (mulf (broadcastInDim S20 ![0] bcast_S1_S20_0 (shapeCast S1 (id (constant S_ .f32 0x41900000#32)) shapeCasts_S_S1))
        fractions)⟩,
     ⟨S1, broadcastInDim S1 ![] bcast_S_S1 (id (constant S_ .f32 0x41900000#32))⟩] concatenates_S20_S1_S21_d0

/-- A row of twenty values, one for each bin, at every pixel. -/
def spread {e : EltTy} (v : Vec Ideal S20 e) : Vec Ideal S4x512x1024x20 e :=
  broadcastInDim S4x512x1024x20 ![0, 1, 2, 3] bcast_S1x1x1x20_S4x512x1024x20_0_1_2_3
    (broadcastInDim S1x1x1x20 ![1, 2, 3] bcast_S1x1x20_S1x1x1x20_1_2_3
      (broadcastInDim S1x1x20 ![2] bcast_S20_S1x1x20_2 v))

/-- The labels as numbers, beside every bin. -/
def labelNum (l : IVec S4x512x1024 32) : FVec Ideal S4x512x1024x20 .f32 :=
  broadcastInDim S4x512x1024x20 ![0, 1, 2, 3] bcast_S4x512x1024x1_S4x512x1024x20_0_1_2_3
    (broadcastInDim S4x512x1024x1 ![0, 1, 2] bcast_S4x512x1024_S4x512x1024x1_0_1_2 (sitofp (F := Ideal) .f32 l))

/-- Whether a pixel's label lies in a bin. -/
def insideOf (l : IVec S4x512x1024 32) : IVec S4x512x1024x20 1 :=
  andi (cmpf .ole (spread (e := .f32) (extractStridedSlice S20 ![0] edges slices_S21_S20_0)) (labelNum l))
    (ori (cmpf .olt (labelNum l) (spread (e := .f32) (extractStridedSlice S20 ![1] edges slices_S21_S20_1)))
      (andi (spread (e := .i1) (cmpi .eq (iotaInDim S20 32 0) (broadcastInDim S20 ![] bcast_S_S20 (constantI S_ 32 19#32))))
        (cmpf .oeq (labelNum l) (spread (e := .f32) (extractStridedSlice S20 ![1] edges slices_S21_S20_1)))))

/-- Each image's histogram, without the bin of the ignored label. -/
def histOf (l : IVec S4x512x1024 32) : FVec Ideal S4x19 .f32 :=
  extractStridedSlice S4x19 ![0, 1]
    (Host.reduceAdd (uitofp (F := Ideal) .f32 (insideOf l)) (constant S_ .f32 0x00000000#32)
      reducesTo_S4x512x1024x20_S4x20_d1_2 h_S_) slices_S4x20_S4x19_0_1

/-- The table of weights from the histogram. -/
def tableOf (v : FVec Ideal S4x19 .f32) : FVec Ideal S4x19 .f32 :=
  Host.divf (broadcastInDim S4x19 ![] bcast_S_S4x19 (constant S_ .f32 0x3F800000#32))
    (maximumf
      (mulf (Host.powf v (broadcastInDim S4x19 ![] bcast_S_S4x19 (constant S_ .f32 0x3E4CCCCD#32)))
        (broadcastInDim S4x19 ![0, 1] bcast_S4x1_S4x19_0_1
          (broadcastInDim S4x1 ![0] bcast_S4_S4x1_0
            (Host.powf (Host.reduceAdd v (constant S_ .f32 0x00000000#32) reducesTo_S4x19_S4_d1 h_S_)
              (broadcastInDim S4 ![] bcast_S_S4 (constant S_ .f32 0x3F4CCCCD#32))))))
      (broadcastInDim S4x19 ![0, 1] bcast_S1x1_S4x19_0_1
        (broadcastInDim S1x1 ![1] bcast_S1_S1x1_1 (broadcastInDim S1 ![] bcast_S_S1 (constant S_ .f32 0x3F800000#32)))))

/-- Each pixel's weight, looked up by its label. -/
def weightOf (t : FVec Ideal S4x19 .f32) (l : IVec S4x512x1024 32) : FVec Ideal S4x512x1024 .f32 :=
  Host.gather gather_S4x19_S4x512x1024x1_S4x512x1024_n_1_0_0_1_3_11 t
    (broadcastInDim S4x512x1024x1 ![0, 1, 2] bcast_S4x512x1024_S4x512x1024x1_0_1_2
      (select (cmpi .slt l (broadcastInDim S4x512x1024 ![] bcast_S_S4x512x1024 (constantI S_ 32 0#32)))
        (addi l (broadcastInDim S4x512x1024 ![] bcast_S_S4x512x1024 (constantI S_ 32 19#32))) l))

/-- An array over the pixels, beside every class. -/
def classes {e : EltTy} (v : Vec Ideal S4x512x1024 e) : Vec Ideal S4x19x512x1024 e :=
  broadcastInDim S4x19x512x1024 ![0, 1, 2, 3] bcast_S4x1x512x1024_S4x19x512x1024_0_1_2_3
    (broadcastInDim S4x1x512x1024 ![0, 2, 3] bcast_S4x512x1024_S4x1x512x1024_0_2_3 v)

/-- The weighted squares, zero where the pixel is ignored. -/
def termsOf (x : FVec Ideal S4x19x512x1024 .f32) (w : FVec Ideal S4x512x1024 .f32) : FVec Ideal S4x19x512x1024 .f32 :=
  select (classes (e := .i1) (maskOf x)) (mulf (mulf x x) (classes (e := .f32) w))
    (broadcastInDim S4x19x512x1024 ![] bcast_S_S4x19x512x1024 (id (constant S_ .f32 0x00000000#32)))

/-- The reference's result. -/
def lossOf (x : FVec Ideal S4x19x512x1024 .f32) : FVec Ideal S_ .f32 :=
  Host.divf (Host.negf (Host.reduceAdd (termsOf x (weightOf (tableOf (histOf (labelOf x))) (labelOf x)))
    (constant S_ .f32 0x00000000#32) reducesTo_S4x19x512x1024_S_d0_1_2_3 h_S_)) (constant S_ .f32 0x42980000#32)

variable (m : (ℓ : Loc nD τ sig) → Buf (Elt Ideal) ℓ)

set_option maxHeartbeats 2000000 in
/-- The reference's whole run: the result is `lossOf` of the argument, the argument is unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v68) = lossOf (m ((c.tc : Thread nD τ).loc main_arg0))
      ∧ r.2.mem ((c.tc : Thread nD τ).loc main_arg0) = m ((c.tc : Thread nD τ).loc main_arg0)) := by
  hlo_run
  simp -implicitDefEqProofs only [StableHlo.TRef.toBuf, StableHlo.TRef.ofBuf, cast_cast, cast_eq]
  rfl

end Cert.ReferenceIdeal.Own

end
-- ==== Proof.Mask.lean ====
module

public import proofs.«01_k».proof.Proof.RefRun
public import proofs.«01_k».proof.Proof.Gen.Pre_no_ignored
public import Idealize.ShloMosaic.Lib.ReduceAll

@[expose] public section

/-! What the precondition says of the reference's mask. -/

noncomputable section

namespace Cert.ReferenceIdeal.Own

open Idealize.ShloMosaic Idealize.ShloMosaic.Tactic
open Cert.ReferenceIdeal Cert.ReferenceIdeal.Gen

/-- The precondition is the mask's conjunction over all pixels. -/
theorem pre_eq (x : FVec Ideal S4x19x512x1024 .f32) : Cert.Pre_no_ignored.fn (F := Ideal) x
    = Host.reduce IntOp.andi (maskOf x) (constantI Cert.Pre_no_ignored.S_ 1 1#1)
      Cert.Pre_no_ignored.Gen.reducesTo_S4x512x1024_S_d0_1_2 Cert.Pre_no_ignored.Gen.h_S_ := by
  unfold maskOf maxOf Cert.Pre_no_ignored.fn
  rfl

/-- Under the precondition no pixel is ignored. -/
theorem mask_all (x : FVec Ideal S4x19x512x1024 .f32) (h : Cert.Pre_no_ignored.fn (F := Ideal) x = fun _ => 1#1)
    (j : S4x512x1024.Idx) : maskOf x j = 1#1 := by
  haveI : Subsingleton Cert.Pre_no_ignored.S_.Idx := ⟨fun a b => funext fun i => i.elim0⟩
  rw [pre_eq] at h
  exact Host.reduce_andi_all _ _ _ _ ix0 (congrFun h ix0) j

end Cert.ReferenceIdeal.Own

end
-- ==== Proof.Best.lean ====
module

public import proofs.«01_k».proof.KernelIdeal
public import Idealize.ShloMosaic.Lib.Pipeline.ValueKit
public import Idealize.ShloMosaic.Lib.Pointwise

@[expose] public section

set_option maxRecDepth 16384

/-! The running maximum over the classes of one pixel, as a plain recursion on numbers. -/

noncomputable section

namespace Cert.Own

open Idealize.ShloMosaic Idealize.ShloMosaic.Tactic

/-- The greatest of `f 0, …, f n` and the first place where it stands: a later value takes over only
    if it is strictly greater. -/
def best (f : ℕ → EReal) : ℕ → EReal × ℕ
  | 0 => (f 0, 0)
  | n + 1 => if (best f n).1 < f (n + 1) then (f (n + 1), n + 1) else best f n

/-- The place `best` names is among the ones looked at, and its value is the one `best` holds. -/
theorem best_at (f : ℕ → EReal) (n : ℕ) : (best f n).2 ≤ n ∧ (best f n).1 = f (best f n).2 := by
  induction n with
  | zero => exact ⟨le_rfl, rfl⟩
  | succ n ih =>
    unfold best
    split_ifs with h
    · exact ⟨le_rfl, rfl⟩
    · exact ⟨ih.1.trans (Nat.le_succ n), ih.2⟩

/-- Nothing looked at is greater than the value `best` holds. -/
theorem le_best (f : ℕ → EReal) (n : ℕ) : ∀ j ≤ n, f j ≤ (best f n).1 := by
  induction n with
  | zero => intro j hj; obtain rfl := Nat.le_zero.mp hj; exact le_rfl
  | succ n ih =>
    intro j hj
    unfold best
    rcases Nat.le_succ_iff.mp hj with hj | rfl
    · split_ifs with h
      · exact (ih j hj).trans h.le
      · exact ih j hj
    · split_ifs with h
      · exact le_rfl
      · exact not_lt.mp h

/-- Everything before the place `best` names is strictly smaller. -/
theorem lt_best (f : ℕ → EReal) (n : ℕ) : ∀ j < (best f n).2, f j < (best f n).1 := by
  induction n with
  | zero => intro j hj; exact absurd hj (Nat.not_lt_zero j)
  | succ n ih =>
    intro j hj
    unfold best at hj ⊢
    split_ifs at hj ⊢ with h
    · exact (le_best f n j (Nat.lt_succ_iff.mp hj)).trans_lt h
    · exact ih j hj

/-- A place with nothing greater anywhere and everything before it strictly smaller is the one
    `best` names. -/
theorem best_unique (f : ℕ → EReal) (n l : ℕ) (hl : l ≤ n) (hle : ∀ j ≤ n, f j ≤ f l)
    (hlt : ∀ j < l, f j < f l) : (best f n).2 = l := by
  obtain ⟨hb, he⟩ := best_at f n
  rcases lt_trichotomy (best f n).2 l with h | h | h
  · have := hlt _ h
    rw [← he] at this
    exact absurd (le_best f n l hl) (not_le.mpr this)
  · exact h
  · have := lt_best f n l h
    rw [he] at this
    exact absurd (hle _ hb) (not_le.mpr this)

/-- The numbers' strict comparison, as the kernel's one-bit flag. -/
theorem ogt_eq_one (a b : EReal) : FloatOps.cmpf (F := Ideal) (φ := .f32) .ogt a b = 1#1 ↔ b < a := by
  rw [Ideal.cmpf_def]
  unfold Ideal.cmp
  by_cases h : b < a <;> simp [h]

variable {s : Shape}

/-- One step of the running maximum, on the arrays the kernel selects from. -/
theorem step_max (f : ℕ → EReal) (n : ℕ) (X C : FVec Ideal s .f32) (i : s.Idx)
    (hX : X i = f (n + 1)) (hC : C i = (best f n).1) :
    select (cmpf .ogt X C) X C i = (best f (n + 1)).1 := by
  show (if FloatOps.cmpf (F := Ideal) (φ := .f32) .ogt (X i) (C i) = 1#1 then X i else C i) = _
  simp only [ogt_eq_one, hX, hC]
  conv_rhs => unfold best
  split_ifs <;> rfl

/-- One step of the running place, on the arrays the kernel selects from. -/
theorem step_lab (f : ℕ → EReal) (n : ℕ) (X C : FVec Ideal s .f32) (L : IVec s 32) (w : BitVec 32) (i : s.Idx)
    (hX : X i = f (n + 1)) (hC : C i = (best f n).1) (hw : w = BitVec.ofNat 32 (n + 1))
    (hL : L i = BitVec.ofNat 32 (best f n).2) :
    select (cmpf .ogt X C) (broadcast s w) L i = BitVec.ofNat 32 (best f (n + 1)).2 := by
  show (if FloatOps.cmpf (F := Ideal) (φ := .f32) .ogt (X i) (C i) = 1#1 then w else L i) = _
  simp only [ogt_eq_one, hX, hC, hL, hw]
  conv_rhs => unfold best
  split_ifs <;> rfl

end Cert.Own

end
-- ==== Proof.Model.lean ====
module

public import proofs.«01_k».proof.Proof.Best

@[expose] public section

/-! The quantities both programs are about, over the scores as a function of image, class, row and
    column. -/

noncomputable section

namespace Cert.Own

open Idealize.ShloMosaic

/-- The scores by image, class, row and column. -/
abbrev Scores := Fin 4 → Fin 19 → Fin 512 → Fin 1024 → EReal

/-- The scores of one pixel, class by class (past the last class: zero). -/
def pixel (X : Scores) (n : Fin 4) (h : Fin 512) (w : Fin 1024) (k : ℕ) : EReal :=
  if hk : k < 19 then X n ⟨k, hk⟩ h w else 0

/-- A pixel's label: the first class with the greatest score. -/
def lab (X : Scores) (n : Fin 4) (h : Fin 512) (w : Fin 1024) : ℕ := (best (pixel X n h w) 18).2

/-- A pixel's sum of squared scores. -/
def ssq (X : Scores) (n : Fin 4) (h : Fin 512) (w : Fin 1024) : EReal :=
  ∑ c : Fin 19, X n c h w * X n c h w

/-- How many pixels of an image carry a label. -/
def cnt (X : Scores) (n : Fin 4) (k : Fin 19) : EReal :=
  ∑ h : Fin 512, ∑ w : Fin 1024, if lab X n h w = k.val then 1 else 0

/-- The squared scores of an image's pixels that carry a label, added up. -/
def sqs (X : Scores) (n : Fin 4) (k : Fin 19) : EReal :=
  ∑ h : Fin 512, ∑ w : Fin 1024, if lab X n h w = k.val then ssq X n h w else 0

/-- The denominator of a class's weight in an image, from the image's counts. -/
def denom (c : Fin 19 → EReal) (k : Fin 19) : EReal :=
  max (Ideal.pow (c k) (Ideal.ofBits .f32 0x3E4CCCCD#32) *
    Ideal.pow (∑ j : Fin 19, c j) (Ideal.ofBits .f32 0x3F4CCCCD#32)) 1

/-- A label is one of the nineteen classes. -/
theorem lab_lt (X : Scores) (n : Fin 4) (h : Fin 512) (w : Fin 1024) : lab X n h w < 19 :=
  Nat.lt_succ_of_le (best_at _ 18).1

/-- The sum of squares over the class numbers below nineteen is the one over the classes. -/
theorem ssq_range (X : Scores) (n : Fin 4) (h : Fin 512) (w : Fin 1024) :
    ∑ c ∈ Finset.range 19, pixel X n h w c * pixel X n h w c = ssq X n h w := by
  rw [← Fin.sum_univ_eq_sum_range (fun c => pixel X n h w c * pixel X n h w c) 19]
  refine Finset.sum_congr rfl fun c _ => ?_
  unfold pixel
  rw [dif_pos c.isLt]

end Cert.Own

end
-- ==== Proof.Label.lean ====
module

public import proofs.«01_k».proof.Proof.RefRun
public import proofs.«01_k».proof.Proof.Model

@[expose] public section

set_option maxRecDepth 16384

/-! The reference's choice of a class: the fold over the classes names the first greatest score. -/

noncomputable section

namespace Cert.ReferenceIdeal.Own

open Idealize.ShloMosaic Idealize.ShloMosaic.Tactic
open Cert.ReferenceIdeal Cert.ReferenceIdeal.Gen Cert.Own

/-- A pair is at least as good as another: a greater value, or the same value and no later place. -/
def AtLeast (a b : EReal × BitVec 32) : Prop := b.1 < a.1 ∨ (b.1 = a.1 ∧ a.2.toInt ≤ b.2.toInt)

/-- A pair is at least as good as itself. -/
theorem AtLeast.refl (a : EReal × BitVec 32) : AtLeast a a := .inr ⟨rfl, le_rfl⟩

/-- Being at least as good is transitive. -/
theorem AtLeast.trans {a b c : EReal × BitVec 32} (h : AtLeast a b) (k : AtLeast b c) : AtLeast a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- One step of the reference's fold keeps one of its two pairs, and that one is at least as good as
    both. -/
theorem reducer_spec (a b : EReal × BitVec 32) :
    (reducer_argmax_f32_i32 (F := Ideal) a b = a ∨ reducer_argmax_f32_i32 (F := Ideal) a b = b)
      ∧ AtLeast (reducer_argmax_f32_i32 (F := Ideal) a b) a ∧ AtLeast (reducer_argmax_f32_i32 (F := Ideal) a b) b := by
  obtain ⟨x, p⟩ := a
  obtain ⟨y, q⟩ := b
  unfold reducer_argmax_f32_i32
  dsimp only
  simp only [Ideal.cmpf_def, Ideal.cmp, IntOp.cmpi, IntOp.ori, IntOp.andi, Scalar.select]
  unfold AtLeast
  rcases lt_trichotomy x y with h | rfl | h
  · simp [h, h.not_gt, h.ne]
  · by_cases hs : p.toInt < q.toInt
    · simp [BitVec.slt, hs, hs.le]
    · simp [BitVec.slt, hs, not_lt.mp hs]
  · simp [h, h.not_gt, h.ne']

/-- The whole fold keeps the starting pair or one of the list's, and it is at least as good as each. -/
theorem foldl_spec (l : List (EReal × BitVec 32)) (a : EReal × BitVec 32) :
    (l.foldl (reducer_argmax_f32_i32 (F := Ideal)) a = a ∨ l.foldl (reducer_argmax_f32_i32 (F := Ideal)) a ∈ l)
      ∧ AtLeast (l.foldl (reducer_argmax_f32_i32 (F := Ideal)) a) a
      ∧ ∀ p ∈ l, AtLeast (l.foldl (reducer_argmax_f32_i32 (F := Ideal)) a) p := by
  induction l generalizing a with
  | nil => exact ⟨.inl rfl, AtLeast.refl a, fun p hp => absurd hp List.not_mem_nil⟩
  | cons b l ih =>
    obtain ⟨h1, h2, h3⟩ := ih (reducer_argmax_f32_i32 (F := Ideal) a b)
    obtain ⟨s1, s2, s3⟩ := reducer_spec a b
    rw [List.foldl_cons]
    refine ⟨?_, h2.trans s2, fun p hp => ?_⟩
    · rcases h1 with h1 | h1
      · rw [h1]
        rcases s1 with s1 | s1
        · exact .inl s1
        · exact .inr (by rw [s1]; exact List.mem_cons_self)
      · exact .inr (List.mem_cons_of_mem _ h1)
    · rcases List.mem_cons.mp hp with rfl | hp
      · exact h2.trans s3
      · exact h3 p hp

/-- The reference's argument by image, class, row and column. -/
abbrev scoresOf (x : FVec Ideal S4x19x512x1024 .f32) : Scores := fun n k h w => x (ix4 n k h w)

/-- The pairs the fold of one pixel runs over are the pixel's scores with their class numbers. -/
theorem mem_fiber (x : FVec Ideal S4x19x512x1024 .f32) (n : Fin 4) (h : Fin 512) (w : Fin 1024) (p : EReal × BitVec 32) :
    p ∈ Host.argReduceFiber x (iotaInDim S4x19x512x1024 32 1) reducesTo_S4x19x512x1024_S4x512x1024_d1 (ix3 n h w)
      ↔ ∃ k : Fin 19, p = (x (ix4 n k h w), BitVec.ofNat 32 k.val) := by
  unfold Host.argReduceFiber
  rw [List.mem_map]
  constructor
  · rintro ⟨i, hi, rfl⟩
    rw [List.mem_filter] at hi
    have hd := of_decide_eq_true hi.2
    generalize S4x19x512x1024.rowMajor.symm i = j at hd ⊢
    have h0 : j 0 = n := by
      have e := congrArg (fun q : S4x512x1024.Idx => q 0) hd
      have v : (Shape.ReducesTo.drop reducesTo_S4x19x512x1024_S4x512x1024_d1 j 0 : Nat) = j 0 :=
        Shape.ReducesTo.drop_apply_val _ j 0
      exact Fin.ext (v.symm.trans (congrArg Fin.val e))
    have h2 : j 2 = h := by
      have e := congrArg (fun q : S4x512x1024.Idx => q 1) hd
      have v : (Shape.ReducesTo.drop reducesTo_S4x19x512x1024_S4x512x1024_d1 j 1 : Nat) = j 2 :=
        Shape.ReducesTo.drop_apply_val _ j 1
      exact Fin.ext (v.symm.trans (congrArg Fin.val e))
    have h3 : j 3 = w := by
      have e := congrArg (fun q : S4x512x1024.Idx => q 2) hd
      have v : (Shape.ReducesTo.drop reducesTo_S4x19x512x1024_S4x512x1024_d1 j 2 : Nat) = j 3 :=
        Shape.ReducesTo.drop_apply_val _ j 2
      exact Fin.ext (v.symm.trans (congrArg Fin.val e))
    refine ⟨j 1, ?_⟩
    have hj : j = ix4 n (j 1) h w := by
      funext a
      fin_cases a
      · exact h0
      · rfl
      · exact h2
      · exact h3
    exact congrArg₂ Prod.mk (congrArg x hj) rfl
  · rintro ⟨k, rfl⟩
    refine ⟨S4x19x512x1024.rowMajor (ix4 n k h w), List.mem_filter.mpr ⟨List.mem_finRange _, decide_eq_true ?_⟩, ?_⟩
    · rw [Equiv.symm_apply_apply]
      funext a
      apply Fin.ext
      fin_cases a
      · exact Shape.ReducesTo.drop_apply_val reducesTo_S4x19x512x1024_S4x512x1024_d1 (ix4 n k h w) 0
      · exact Shape.ReducesTo.drop_apply_val reducesTo_S4x19x512x1024_S4x512x1024_d1 (ix4 n k h w) 1
      · exact Shape.ReducesTo.drop_apply_val reducesTo_S4x19x512x1024_S4x512x1024_d1 (ix4 n k h w) 2
    · rw [Equiv.symm_apply_apply]
      rfl

/-- A class number as a signed word. -/
theorem toInt_class (k : ℕ) (hk : k < 19) : (BitVec.ofNat 32 k).toInt = (k : ℤ) := by
  rw [BitVec.toInt_ofNat', Int.bmod_def]
  omega

/-- The fold over pairs that are a pixel's scores with their class numbers names the pixel's label. -/
theorem foldl_label (X : Scores) (n : Fin 4) (h : Fin 512) (w : Fin 1024) (l : List (EReal × BitVec 32)) (a p : EReal × BitVec 32)
    (ha : a = (⊥, BitVec.ofNat 32 0)) (hp : p = l.foldl (reducer_argmax_f32_i32 (F := Ideal)) a)
    (hm : ∀ p, p ∈ l ↔ ∃ k : Fin 19, p = (X n k h w, BitVec.ofNat 32 k.val)) :
    p.2 = BitVec.ofNat 32 (lab X n h w) := by
  rw [hp, ha]
  clear hp
  obtain ⟨h1, -, h3⟩ := foldl_spec l (⊥, BitVec.ofNat 32 0)
  generalize l.foldl (reducer_argmax_f32_i32 (F := Ideal)) (⊥, BitVec.ofNat 32 0) = r at h1 h3 ⊢
  have hf : ∀ k : Fin 19, AtLeast r (X n k h w, BitVec.ofNat 32 k.val) := fun k => h3 _ ((hm _).mpr ⟨k, rfl⟩)
  have hr : ∃ k : Fin 19, r = (X n k h w, BitVec.ofNat 32 k.val) := by
    rcases h1 with h1 | h1
    · refine ⟨0, ?_⟩
      have := hf 0
      rw [h1] at this ⊢
      rcases this with this | ⟨this, -⟩
      · exact absurd this not_lt_bot
      · exact congrArg₂ Prod.mk this.symm rfl
    · exact (hm r).mp h1
  obtain ⟨k, rfl⟩ := hr
  have hp : ∀ j (hj : j < 19), pixel X n h w j = X n ⟨j, hj⟩ h w := fun j hj => dif_pos hj
  have hb := best_unique (pixel X n h w) 18 k.val (Nat.le_of_lt_succ k.isLt)
    (fun j hj => by
      rw [hp j (Nat.lt_succ_of_le hj), hp k.val k.isLt]
      rcases hf ⟨j, Nat.lt_succ_of_le hj⟩ with e | ⟨e, -⟩
      · exact e.le
      · exact e.le)
    (fun j hj => by
      rw [hp j (hj.trans k.isLt), hp k.val k.isLt]
      rcases hf ⟨j, hj.trans k.isLt⟩ with e | ⟨-, e⟩
      · exact e
      · simp only [toInt_class k.val k.isLt, toInt_class j (hj.trans k.isLt)] at e
        exact absurd hj (not_lt.mpr (by exact_mod_cast e)))
  exact congrArg (BitVec.ofNat 32) hb.symm

/-- The pair the fold starts from. -/
theorem start_eq : ((constant (F := Ideal) S_ .f32 0xFF800000#32 (Shape.Idx.first h_S_),
    constantI S_ 32 0#32 (Shape.Idx.first h_S_)) : EReal × BitVec 32) = (⊥, BitVec.ofNat 32 0) := by
  refine congrArg₂ Prod.mk ?_ rfl
  show Ideal.ofBits .f32 0xFF800000#32 = ⊥
  simp [Ideal.ofBits, Ideal.ieee]

/-- The reference's operation is the fold over the pixel's pairs. -/
theorem arg_fold (x : FVec Ideal S4x19x512x1024 .f32) (j : S4x512x1024.Idx) :
    pairOf x j
      = (Host.argReduceFiber x (iotaInDim S4x19x512x1024 32 1) reducesTo_S4x19x512x1024_S4x512x1024_d1 j).foldl
          (reducer_argmax_f32_i32 (F := Ideal))
          (constant S_ .f32 0xFF800000#32 (Shape.Idx.first h_S_), constantI S_ 32 0#32 (Shape.Idx.first h_S_)) :=
  (congrFun (Ideal.argReduce_eq_reduce2 _ _ _ _ _ _ _) j).trans (Host.reduce2_eq_foldl_fiber _ _ _ _ _ _ _ j)

/-- The reference's pair of a pixel holds the pixel's label. -/
theorem pair_label (x : FVec Ideal S4x19x512x1024 .f32) (n : Fin 4) (h : Fin 512) (w : Fin 1024) :
    (pairOf x (ix3 n h w)).2 = BitVec.ofNat 32 (lab (scoresOf x) n h w) :=
  foldl_label (scoresOf x) n h w _ _ _ start_eq (arg_fold x (ix3 n h w)) (mem_fiber x n h w)

/-- The second member of a family's pair. -/
theorem seconds_apply {α β γ : Type} (f : α → β × γ) (j : α) : seconds f j = (f j).2 := rfl

/-- The reference's class of a pixel is the pixel's label. -/
theorem argOf_at (x : FVec Ideal S4x19x512x1024 .f32) (n : Fin 4) (h : Fin 512) (w : Fin 1024) :
    argOf x (ix3 n h w) = BitVec.ofNat 32 (lab (scoresOf x) n h w) :=
  (seconds_apply (pairOf x) (ix3 n h w)).trans (pair_label x n h w)

end Cert.ReferenceIdeal.Own

end
-- ==== Proof.Edges.lean ====
module

public import proofs.«01_k».proof.Proof.Label

@[expose] public section

set_option maxRecDepth 16384

/-! The reference's bins: the edges as numbers, and which bin a label lies in. -/

noncomputable section

namespace Cert.ReferenceIdeal.Own

open Idealize.ShloMosaic Idealize.ShloMosaic.Tactic
open Cert.ReferenceIdeal Cert.ReferenceIdeal.Gen Cert.Own

/-- The first edge, as a real number. -/
theorem first_edge : Ideal.ofBits .f32 3212836864#32 = ((-1 : ℝ) : EReal) := by
  simp [Ideal.ofBits, Ideal.ieee, -EReal.coe_mul]; norm_num

/-- The last edge, as a real number. -/
theorem last_edge : Ideal.ofBits .f32 1099956224#32 = ((18 : ℝ) : EReal) := by
  simp [Ideal.ofBits, Ideal.ieee, -EReal.coe_mul]; norm_num

/-- The number of steps between the edges, as a real number. -/
theorem steps : Ideal.ofBits .f32 1101004800#32 = ((20 : ℝ) : EReal) := by
  simp [Ideal.ofBits, Ideal.ieee, -EReal.coe_mul]; norm_num

/-- A small number's word, read back signed. -/
theorem toInt_small (k : ℕ) (hk : k < 21) : (BitVec.ofNat 32 k).toInt = (k : ℤ) := by
  rw [BitVec.toInt_ofNat', Int.bmod_def]
  omega

/-- The fractions are twentieths. -/
theorem fractions_at (k : Fin 20) : fractions (ix1 k) = (((k.val : ℝ) / 20 : ℝ) : EReal) := by
  pointwise [fractions]
  rw [steps]
  have e : FloatOps.sitofp (F := Ideal) .f32 (BitVec.ofNat 32 k.val) = (((k.val : ℝ)) : EReal) := by
    show (((BitVec.ofNat 32 k.val).toInt : ℝ) : EReal) = _
    rw [toInt_small k.val (by omega)]
    norm_cast
  rw [e]
  unfold Ideal.div
  rw [if_neg (by norm_num), ← EReal.coe_inv, ← EReal.coe_mul]
  rfl

/-- The edges go from minus one to eighteen in twenty equal steps. -/
theorem edges_at (k : Fin 21) : edges (ix1 k) = ((-1 + 19 / 20 * (k.val : ℝ) : ℝ) : EReal) := by
  pointwise [edges]
  have c1 : id (constant (F := Ideal) S_ FTy.f32 3212836864#32) ix0 = ((-1 : ℝ) : EReal) := first_edge
  have c2 : id (constant (F := Ideal) S_ FTy.f32 1099956224#32) ix0 = ((18 : ℝ) : EReal) := last_edge
  simp only [c1, c2]
  split_ifs with h
  · rw [fractions_at, ← EReal.coe_one, ← EReal.coe_sub, ← EReal.coe_mul, ← EReal.coe_mul, ← EReal.coe_add]
    congr 1
    ring
  · have : k.val = 20 := by omega
    rw [this]
    congr 1
    norm_num

/-- The bits of the bin test, as a proposition. -/
theorem test_bits (P Q R : Prop) [Decidable P] [Decidable Q] [Decidable R] (e : BitVec 1) :
    IntOp.andi (BitVec.ofBool (decide P)) (IntOp.ori (BitVec.ofBool (decide Q))
      (IntOp.andi e (BitVec.ofBool (decide R)))) = if P ∧ (Q ∨ (e = 1#1 ∧ R)) then 1#1 else 0#1 := by
  rcases BitVec.eq_zero_or_eq_one e with rfl | rfl <;> by_cases hP : P <;> by_cases hQ : Q <;> by_cases hR : R <;>
    simp [hP, hQ, hR, IntOp.andi, IntOp.ori]

/-- A label lies in the bin one past its own number, and in no other bin of a class. -/
theorem inside_at (l : IVec S4x512x1024 32) (n : Fin 4) (h : Fin 512) (w : Fin 1024) (a : ℕ) (ha : a < 19)
    (hl : l (ix3 n h w) = BitVec.ofNat 32 a) (c : Fin 19) (k : Fin 20) (hk : k.val = 1 + c.val) :
    insideOf l (ix4 n h w k) = if a = c.val then 1#1 else 0#1 := by
  pointwise [insideOf, spread, labelNum]
  have e : FloatOps.sitofp (F := Ideal) .f32 (l (ix3 n h w)) = (((a : ℝ)) : EReal) := by
    rw [hl]
    show (((BitVec.ofNat 32 a).toInt : ℝ) : EReal) = _
    rw [toInt_small a (by omega)]
    norm_cast
  rw [e]
  simp only [edges_at]
  rw [test_bits]
  refine if_congr ?_ rfl rfl
  rw [EReal.coe_le_coe_iff, EReal.coe_lt_coe_iff, EReal.coe_eq_coe_iff]
  have hc := c.isLt
  have hkr : (k.val : ℝ) = 1 + (c.val : ℝ) := by rw [hk]; push_cast; rfl
  constructor
  · rintro ⟨p, q⟩
    have p' : 19 * (c.val : ℝ) ≤ 20 * (a : ℝ) + 1 := by rw [hkr] at p; linarith
    have p'' : 19 * c.val ≤ 20 * a + 1 := by exact_mod_cast p'
    have q' : 20 * (a : ℝ) ≤ 18 + 19 * (c.val : ℝ) := by
      rcases q with q | ⟨-, q⟩
      · push_cast at q; rw [hkr] at q; linarith
      · push_cast at q; rw [hkr] at q; linarith
    have q'' : 20 * a ≤ 18 + 19 * c.val := by exact_mod_cast q'
    omega
  · rintro rfl
    have hr : (c.val : ℝ) ≤ 18 := by exact_mod_cast Nat.le_of_lt_succ hc
    refine ⟨by rw [hkr]; linarith, ?_⟩
    by_cases h18 : c.val = 18
    · refine .inr ⟨?_, ?_⟩
      · rw [hk, h18]; rfl
      · push_cast; rw [hkr, h18]; norm_num
    · left
      have : (c.val : ℝ) ≤ 17 := by exact_mod_cast (by omega : c.val ≤ 17)
      push_cast
      rw [hkr]
      linarith

end Cert.ReferenceIdeal.Own

end
-- ==== Proof.Hist.lean ====
module

public import proofs.«01_k».proof.Proof.Edges

@[expose] public section

set_option maxRecDepth 16384

/-! The reference's histogram counts the labels, and its table holds the weights. -/

noncomputable section

namespace Cert.ReferenceIdeal.Own

open Idealize.ShloMosaic Idealize.ShloMosaic.Tactic
open Cert.ReferenceIdeal Cert.ReferenceIdeal.Gen Cert.Own

/-- The host's sum over rows and columns, at an image and a bin. -/
theorem sum_pixels (x : S4x512x1024x20.Idx → EReal) (n : Fin 4) (k : Fin 20) :
    Ideal.hostReduceAdd reducesTo_S4x512x1024x20_S4x20_d1_2 x 0 (ix2 n k)
      = ∑ h : Fin 512, ∑ w : Fin 1024, x (ix4 n h w k) := by
  have hd : ∀ (a : Fin 4) (h : Fin 512) (w : Fin 1024) (e : Fin 20),
      (Shape.ReducesTo.drop reducesTo_S4x512x1024x20_S4x20_d1_2 (ix4 a h w e) = ix2 n k) ↔ (a = n ∧ e = k) := by
    intro a h w e
    have v0 : (Shape.ReducesTo.drop reducesTo_S4x512x1024x20_S4x20_d1_2 (ix4 a h w e) 0 : Nat) = a.val :=
      Shape.ReducesTo.drop_apply_val _ (ix4 a h w e) 0
    have v1 : (Shape.ReducesTo.drop reducesTo_S4x512x1024x20_S4x20_d1_2 (ix4 a h w e) 1 : Nat) = e.val :=
      Shape.ReducesTo.drop_apply_val _ (ix4 a h w e) 1
    constructor
    · intro q
      exact ⟨Fin.ext (v0.symm.trans (congrArg (fun i : S4x20.Idx => (i 0).val) q)),
        Fin.ext (v1.symm.trans (congrArg (fun i : S4x20.Idx => (i 1).val) q))⟩
    · rintro ⟨rfl, rfl⟩
      funext b
      apply Fin.ext
      fin_cases b
      · exact v0
      · exact v1
  unfold Ideal.hostReduceAdd
  rw [zero_add, Finset.sum_filter, sum_idx4]
  simp only [hd]
  rw [Finset.sum_eq_single n (fun a _ ha => Finset.sum_eq_zero fun h _ => Finset.sum_eq_zero fun w _ =>
    Finset.sum_eq_zero fun e _ => if_neg fun q => ha q.1) (fun q => absurd (Finset.mem_univ _) q)]
  refine Finset.sum_congr rfl fun h _ => Finset.sum_congr rfl fun w _ => ?_
  rw [Finset.sum_eq_single k (fun e _ he => if_neg fun q => he q.2) (fun q => absurd (Finset.mem_univ _) q)]
  exact if_pos ⟨rfl, rfl⟩

/-- The histogram of the labels is the count of each label. -/
theorem hist_at (X : Scores) (l : IVec S4x512x1024 32)
    (hl : ∀ n h w, l (ix3 n h w) = BitVec.ofNat 32 (lab X n h w)) (n : Fin 4) (k : Fin 19) :
    histOf l (ix2 n k) = cnt X n k := by
  pointwise [histOf]
  rw [sum_pixels]
  unfold cnt
  refine Finset.sum_congr rfl fun h _ => Finset.sum_congr rfl fun w _ => ?_
  show (((insideOf l _).toNat : ℝ) : EReal) = _
  rw [inside_at l n h w (lab X n h w) (lab_lt X n h w) (hl n h w) k _ rfl]
  split_ifs <;> simp

/-- The table of weights from the counts. -/
theorem table_at (v : FVec Ideal S4x19 .f32) (n : Fin 4) (k : Fin 19) :
    tableOf v (ix2 n k) = Ideal.div 1 (denom (fun j => v (ix2 n j)) k) := by
  pointwise [tableOf]
  rfl

end Cert.ReferenceIdeal.Own

end
-- ==== Proof.Lookup.lean ====
module

public import proofs.«01_k».proof.Proof.RefRun

@[expose] public section

set_option maxRecDepth 16384

/-! The reference's lookup: a pixel reads the table at its image and its label. -/

noncomputable section

namespace Cert.ReferenceIdeal.Own

open Idealize.ShloMosaic Idealize.ShloMosaic.Tactic
open Cert.ReferenceIdeal Cert.ReferenceIdeal.Gen

/-- The lookup's dimension numbers. -/
abbrev look := gather_S4x19_S4x512x1024x1_S4x512x1024_n_1_0_0_1_3_11

/-- The lookup at a pixel whose index is a class. -/
theorem gather_at (t : FVec Ideal S4x19 .f32) (idx : IVec S4x512x1024x1 32) (n : Fin 4) (h : Fin 512) (w : Fin 1024)
    (k : Fin 19) (hk : idx (ix4 n h w 0) = BitVec.ofNat 32 k.val) :
    Host.gather look t idx (ix3 n h w) = t (ix2 n k) := by
  unfold Host.gather
  refine congrArg t ?_
  funext a
  refine Fin.ext ?_
  show look.start (ix3 n h w) idx a + look.batchCoord (ix3 n h w) a + look.offCoord (ix3 n h w) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ look.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    rw [dif_pos (show (1 : Fin 2) ∈ look.startIndexMap from List.mem_singleton.mpr rfl)]
    have hsi : look.siIdx (ix3 n h w) ⟨List.idxOf (1 : Fin 2) look.startIndexMap,
        List.idxOf_lt_length_iff.2 (List.mem_singleton.mpr rfl)⟩ = ix4 n h w 0 := by
      funext b
      refine Fin.ext ?_
      match b with
      | ⟨0, _⟩ => rfl
      | ⟨1, _⟩ => rfl
      | ⟨2, _⟩ => rfl
      | ⟨3, _⟩ => rfl
    rw [hsi, hk]
    have ht : (BitVec.ofNat 32 k.val).toInt = (k.val : ℤ) := by
      have := k.isLt
      rw [BitVec.toInt_ofNat', Int.bmod_def]
      omega
    rw [ht]
    show min k.val 18 = k.val
    have := k.isLt
    omega

/-- A pixel's weight is its image's table at its label. -/
theorem weight_at (t : FVec Ideal S4x19 .f32) (l : IVec S4x512x1024 32) (n : Fin 4) (h : Fin 512) (w : Fin 1024)
    (k : Fin 19) (hl : l (ix3 n h w) = BitVec.ofNat 32 k.val) :
    weightOf t l (ix3 n h w) = t (ix2 n k) := by
  unfold weightOf
  refine gather_at t _ n h w k ?_
  pointwise []
  rw [hl]
  have hs : ∀ j : Fin 19, IntOp.cmpi .slt (BitVec.ofNat 32 j.val) 0#32 = 0#1 := by decide
  rw [hs k]
  rfl

end Cert.ReferenceIdeal.Own

end
-- ==== Proof.RefValue.lean ====
module

public import proofs.«01_k».proof.Proof.Hist
public import proofs.«01_k».proof.Proof.Lookup

@[expose] public section

set_option maxRecDepth 16384

/-! The reference's result when no pixel is ignored: a sum over images, classes and pixels. -/

noncomputable section

namespace Cert.Own

open Idealize.ShloMosaic

/-- The reference's result over the scores. -/
def refLoss (X : Scores) : EReal :=
  Ideal.div (-∑ n : Fin 4, ∑ c : Fin 19, ∑ h : Fin 512, ∑ w : Fin 1024,
      X n c h w * X n c h w * Ideal.div 1 (denom (cnt X n) ⟨lab X n h w, lab_lt X n h w⟩))
    (Ideal.ofBits .f32 0x42980000#32)

end Cert.Own

namespace Cert.ReferenceIdeal.Own

open Idealize.ShloMosaic Idealize.ShloMosaic.Tactic
open Cert.ReferenceIdeal Cert.ReferenceIdeal.Gen Cert.Own

/-- Where no pixel is ignored the labels are the classes. -/
theorem labelOf_at (x : FVec Ideal S4x19x512x1024 .f32) (hM : ∀ j, maskOf x j = 1#1) (n : Fin 4) (h : Fin 512)
    (w : Fin 1024) : labelOf x (ix3 n h w) = BitVec.ofNat 32 (lab (scoresOf x) n h w) := by
  unfold labelOf
  rw [← argOf_at]
  show Scalar.select (maskOf x (ix3 n h w)) (argOf x (ix3 n h w)) _ = _
  rw [hM]
  rfl

/-- Where no pixel is ignored a weighted square is the square times the pixel's weight. -/
theorem termsOf_at (x : FVec Ideal S4x19x512x1024 .f32) (hM : ∀ j, maskOf x j = 1#1)
    (v : FVec Ideal S4x512x1024 .f32) (n : Fin 4) (c : Fin 19) (h : Fin 512) (w : Fin 1024) :
    termsOf x v (ix4 n c h w) = x (ix4 n c h w) * x (ix4 n c h w) * v (ix3 n h w) := by
  pointwise [termsOf, classes]
  rw [hM]
  rfl

/-- Where no pixel is ignored a pixel's weight is one over its label's denominator. -/
theorem pixel_weight (x : FVec Ideal S4x19x512x1024 .f32) (hM : ∀ j, maskOf x j = 1#1) (n : Fin 4) (h : Fin 512)
    (w : Fin 1024) :
    weightOf (tableOf (histOf (labelOf x))) (labelOf x) (ix3 n h w)
      = Ideal.div 1 (denom (cnt (scoresOf x) n) ⟨lab (scoresOf x) n h w, lab_lt (scoresOf x) n h w⟩) := by
  rw [weight_at _ _ n h w ⟨lab (scoresOf x) n h w, lab_lt (scoresOf x) n h w⟩ (labelOf_at x hM n h w), table_at]
  have e : (fun j => histOf (labelOf x) (ix2 n j)) = cnt (scoresOf x) n :=
    funext fun j => hist_at (scoresOf x) (labelOf x) (labelOf_at x hM) n j
  rw [e]

/-- The total of an array over all its indices, as nested sums. -/
theorem total (v : S4x19x512x1024.Idx → EReal) (i : S_.Idx) :
    Ideal.hostReduceAdd reducesTo_S4x19x512x1024_S_d0_1_2_3 v 0 i
      = ∑ n : Fin 4, ∑ c : Fin 19, ∑ h : Fin 512, ∑ w : Fin 1024, v (ix4 n c h w) := by
  rw [Ideal.hostReduceAdd_total _ (fun b => b.elim0), zero_add, sum_idx4]

/-- The last operations, over any array of terms. -/
theorem finish_at (v : FVec Ideal S4x19x512x1024 .f32) (i : S_.Idx) :
    Host.divf (Host.negf (Host.reduceAdd v (constant S_ .f32 0x00000000#32) reducesTo_S4x19x512x1024_S_d0_1_2_3 h_S_))
        (constant (F := Ideal) S_ .f32 0x42980000#32) i
      = Ideal.div (-∑ n : Fin 4, ∑ c : Fin 19, ∑ h : Fin 512, ∑ w : Fin 1024, v (ix4 n c h w))
        (Ideal.ofBits .f32 0x42980000#32) := by
  rw [← total v i, ← Ideal.ofBits_zero_f32]
  rfl

/-- Where no pixel is ignored the reference's result is `refLoss`. -/
theorem lossOf_eq (x : FVec Ideal S4x19x512x1024 .f32) (hM : ∀ j, maskOf x j = 1#1) :
    lossOf x = fun _ => refLoss (scoresOf x) := by
  funext i
  unfold lossOf
  rw [finish_at]
  unfold refLoss
  simp only [termsOf_at x hM, pixel_weight x hM]

end Cert.ReferenceIdeal.Own

end
-- ==== Proof.Block.lean ====
module

public import proofs.«01_k».proof.Proof.Best
public import proofs.«01_k».proof.Proof.Gen.KernelIdeal.Skeleton
public import Idealize.ShloMosaic.Lib.WordCmp

@[expose] public section

set_option maxRecDepth 16384

/-! What one block's arithmetic computes: each pixel's label, its sum of squares, and what is added
    to the two carried tables. -/

noncomputable section

namespace Cert.KernelIdeal.Own

open Idealize.ShloMosaic Idealize.ShloMosaic.Tactic
open Cert.KernelIdeal.Gen Cert.Own

/-- The values of one pixel of a block, class by class (past the last class: zero). -/
def pix (x : Vec Ideal S1x19x8x1024 .f32) (i : S8x1024.Idx) (k : ℕ) : EReal :=
  if hk : k < 19 then x (ix4 (0 : Fin 1) (⟨k, hk⟩ : Fin 19) (i 0 : Fin 8) (i 1 : Fin 1024)) else 0

/-- Class `k` cut out of a block, read at a pixel. -/
theorem slice_at (x : Vec Ideal S1x19x8x1024 .f32) (i : S8x1024.Idx) (k : ℕ) (hk : k < 19)
    (h : S19x8x1024.Slices ![k, 0, 0] S1x8x1024) :
    shapeCast S8x1024 (extractStridedSlice S1x8x1024 ![k, 0, 0] (k0_pay4 x) h) shapeCasts_S1x8x1024_S8x1024 i
      = pix x i k := by
  unfold k0_pay4 pix
  idx_vars i
  pointwise
  rw [dif_pos hk]

/-- The running maximum the body holds after its first part (classes 0 to 4). -/
abbrev mid1 (x : Vec Ideal S1x19x8x1024 .f32) : FVec Ideal S8x1024 .f32 := k0_pay17 x

/-- The running maximum the body holds after its second part (classes 0 to 11). -/
abbrev mid2 (x : Vec Ideal S1x19x8x1024 .f32) : FVec Ideal S8x1024 .f32 :=
  k0_pay41 (k0_pay4 x) (k0_pay17 x) (k0_pay20 x)

/-- The running label after the second part. -/
abbrev lab2 (x : Vec Ideal S1x19x8x1024 .f32) : IVec S8x1024 32 :=
  k0_pay42 (k0_pay4 x) (k0_pay17 x) (k0_pay18 x) (k0_pay20 x)

/-- The running label after the third part (classes 0 to 17). -/
abbrev lab3 (x : Vec Ideal S1x19x8x1024 .f32) : IVec S8x1024 32 :=
  k0_pay61 (k0_pay4 x) (mid2 x) (lab2 x)

/-- Whether class 18 takes over. -/
abbrev last3 (x : Vec Ideal S1x19x8x1024 .f32) : IVec S8x1024 1 := k0_pay64 (k0_pay4 x) (mid2 x)

/-- The sum of the squares of classes 0 to 17. -/
abbrev ssq3 (x : Vec Ideal S1x19x8x1024 .f32) : FVec Ideal S8x1024 .f32 :=
  k0_pay62 (k0_pay4 x) (k0_pay38 (k0_pay4 x) (k0_pay19 x) (k0_pay20 x)) (k0_pay43 (k0_pay4 x))

/-- The counts table after a block, over the table before it. -/
abbrev newCounts (r : BitVec 32) (x : Vec Ideal S1x19x8x1024 .f32) (old : Vec Ideal S8x19 .f32) :
    FVec Ideal S8x19 .f32 :=
  k0_pay67 r (lab3 x) (last3 x) k0_pay65 old

/-- The sums table after a block, over the table before it. -/
abbrev newSums (r : BitVec 32) (x : Vec Ideal S1x19x8x1024 .f32) (old : Vec Ideal S8x19 .f32) :
    FVec Ideal S8x19 .f32 :=
  k0_pay68 r (lab3 x) (ssq3 x) (k0_pay63 (k0_pay4 x)) (last3 x) k0_pay65 old

/-- Each class of a block, read at a pixel. -/
theorem slices (x : Vec Ideal S1x19x8x1024 .f32) (i : S8x1024.Idx) :
    k0_pay5 x i = pix x i 0 ∧
    k0_pay6 x i = pix x i 1 ∧
    k0_pay9 x i = pix x i 2 ∧
    k0_pay12 x i = pix x i 3 ∧
    k0_pay15 x i = pix x i 4 ∧
    k0_pay20 x i = pix x i 5 ∧
    k0_pay23 (k0_pay4 x) i = pix x i 6 ∧
    k0_pay26 (k0_pay4 x) i = pix x i 7 ∧
    k0_pay29 (k0_pay4 x) i = pix x i 8 ∧
    k0_pay32 (k0_pay4 x) i = pix x i 9 ∧
    k0_pay35 (k0_pay4 x) i = pix x i 10 ∧
    k0_pay39 (k0_pay4 x) i = pix x i 11 ∧
    k0_pay44 (k0_pay4 x) i = pix x i 12 ∧
    k0_pay47 (k0_pay4 x) i = pix x i 13 ∧
    k0_pay50 (k0_pay4 x) i = pix x i 14 ∧
    k0_pay53 (k0_pay4 x) i = pix x i 15 ∧
    k0_pay56 (k0_pay4 x) i = pix x i 16 ∧
    k0_pay59 (k0_pay4 x) i = pix x i 17 ∧
    k0_pay63 (k0_pay4 x) i = pix x i 18 :=
  ⟨slice_at x i 0 (by decide) _,
   slice_at x i 1 (by decide) _,
   slice_at x i 2 (by decide) _,
   slice_at x i 3 (by decide) _,
   slice_at x i 4 (by decide) _,
   slice_at x i 5 (by decide) _,
   slice_at x i 6 (by decide) _,
   slice_at x i 7 (by decide) _,
   slice_at x i 8 (by decide) _,
   slice_at x i 9 (by decide) _,
   slice_at x i 10 (by decide) _,
   slice_at x i 11 (by decide) _,
   slice_at x i 12 (by decide) _,
   slice_at x i 13 (by decide) _,
   slice_at x i 14 (by decide) _,
   slice_at x i 15 (by decide) _,
   slice_at x i 16 (by decide) _,
   slice_at x i 17 (by decide) _,
   slice_at x i 18 (by decide) _⟩

/-- After the first part the body holds the maximum of classes 0 to 4 and its label. -/
theorem part1_at (x : Vec Ideal S1x19x8x1024 .f32) (i : S8x1024.Idx) :
    k0_pay17 x i = (best (pix x i) 4).1 ∧ k0_pay18 x i = BitVec.ofNat 32 (best (pix x i) 4).2 := by
  obtain ⟨s0, s1, s2, s3, s4, s5, s6, s7, s8, s9, s10, s11, s12, s13, s14, s15, s16, s17, s18⟩ := slices x i
  have m0 : k0_pay5 x i = (best (pix x i) 0).1 := s0
  have l0 : broadcast S8x1024 (0#32) i = BitVec.ofNat 32 (best (pix x i) 0).2 := rfl
  have m1 : k0_pay8 x i = (best (pix x i) 1).1 := step_max _ 0 (k0_pay6 x) (k0_pay5 x) i s1 m0
  have l1 := step_lab _ 0 (k0_pay6 x) (k0_pay5 x) _ 1#32 i s1 m0 rfl l0
  have m2 : k0_pay11 x i = (best (pix x i) 2).1 := step_max _ 1 (k0_pay9 x) (k0_pay8 x) i s2 m1
  have l2 := step_lab _ 1 (k0_pay9 x) (k0_pay8 x) _ 2#32 i s2 m1 rfl l1
  have m3 : k0_pay14 x i = (best (pix x i) 3).1 := step_max _ 2 (k0_pay12 x) (k0_pay11 x) i s3 m2
  have l3 := step_lab _ 2 (k0_pay12 x) (k0_pay11 x) _ 3#32 i s3 m2 rfl l2
  have m4 : k0_pay17 x i = (best (pix x i) 4).1 := step_max _ 3 (k0_pay15 x) (k0_pay14 x) i s4 m3
  have l4 := step_lab _ 3 (k0_pay15 x) (k0_pay14 x) _ 4#32 i s4 m3 rfl l3
  exact ⟨m4, l4⟩

/-- After the second part the body holds the maximum of classes 0 to 11 and its label. -/
theorem part2_at (x : Vec Ideal S1x19x8x1024 .f32) (i : S8x1024.Idx) :
    mid2 x i = (best (pix x i) 11).1 ∧ lab2 x i = BitVec.ofNat 32 (best (pix x i) 11).2 := by
  obtain ⟨s0, s1, s2, s3, s4, s5, s6, s7, s8, s9, s10, s11, s12, s13, s14, s15, s16, s17, s18⟩ := slices x i
  obtain ⟨m4, l4⟩ := part1_at x i
  have m5 : k0_pay22 (k0_pay17 x) (k0_pay20 x) i = (best (pix x i) 5).1 := step_max _ 4 (k0_pay20 x) (k0_pay17 x) i s5 m4
  have l5 := step_lab _ 4 (k0_pay20 x) (k0_pay17 x) _ 5#32 i s5 m4 rfl l4
  have m6 : k0_pay25 (k0_pay4 x) (k0_pay17 x) (k0_pay20 x) i = (best (pix x i) 6).1 := step_max _ 5 (k0_pay23 (k0_pay4 x)) (k0_pay22 (k0_pay17 x) (k0_pay20 x)) i s6 m5
  have l6 := step_lab _ 5 (k0_pay23 (k0_pay4 x)) (k0_pay22 (k0_pay17 x) (k0_pay20 x)) _ 6#32 i s6 m5 rfl l5
  have m7 : k0_pay28 (k0_pay4 x) (k0_pay17 x) (k0_pay20 x) i = (best (pix x i) 7).1 := step_max _ 6 (k0_pay26 (k0_pay4 x)) (k0_pay25 (k0_pay4 x) (k0_pay17 x) (k0_pay20 x)) i s7 m6
  have l7 := step_lab _ 6 (k0_pay26 (k0_pay4 x)) (k0_pay25 (k0_pay4 x) (k0_pay17 x) (k0_pay20 x)) _ 7#32 i s7 m6 rfl l6
  have m8 : k0_pay31 (k0_pay4 x) (k0_pay17 x) (k0_pay20 x) i = (best (pix x i) 8).1 := step_max _ 7 (k0_pay29 (k0_pay4 x)) (k0_pay28 (k0_pay4 x) (k0_pay17 x) (k0_pay20 x)) i s8 m7
  have l8 := step_lab _ 7 (k0_pay29 (k0_pay4 x)) (k0_pay28 (k0_pay4 x) (k0_pay17 x) (k0_pay20 x)) _ 8#32 i s8 m7 rfl l7
  have m9 : k0_pay34 (k0_pay4 x) (k0_pay17 x) (k0_pay20 x) i = (best (pix x i) 9).1 := step_max _ 8 (k0_pay32 (k0_pay4 x)) (k0_pay31 (k0_pay4 x) (k0_pay17 x) (k0_pay20 x)) i s9 m8
  have l9 := step_lab _ 8 (k0_pay32 (k0_pay4 x)) (k0_pay31 (k0_pay4 x) (k0_pay17 x) (k0_pay20 x)) _ 9#32 i s9 m8 rfl l8
  have m10 : k0_pay37 (k0_pay4 x) (k0_pay17 x) (k0_pay20 x) i = (best (pix x i) 10).1 := step_max _ 9 (k0_pay35 (k0_pay4 x)) (k0_pay34 (k0_pay4 x) (k0_pay17 x) (k0_pay20 x)) i s10 m9
  have l10 := step_lab _ 9 (k0_pay35 (k0_pay4 x)) (k0_pay34 (k0_pay4 x) (k0_pay17 x) (k0_pay20 x)) _ 10#32 i s10 m9 rfl l9
  have m11 : mid2 x i = (best (pix x i) 11).1 := step_max _ 10 (k0_pay39 (k0_pay4 x)) (k0_pay37 (k0_pay4 x) (k0_pay17 x) (k0_pay20 x)) i s11 m10
  have l11 := step_lab _ 10 (k0_pay39 (k0_pay4 x)) (k0_pay37 (k0_pay4 x) (k0_pay17 x) (k0_pay20 x)) _ 11#32 i s11 m10 rfl l10
  exact ⟨m11, l11⟩

/-- Each pixel's label after the last class, as the body selects it. -/
theorem label_at (x : Vec Ideal S1x19x8x1024 .f32) (i : S8x1024.Idx) :
    select (last3 x) k0_pay65 (lab3 x) i = BitVec.ofNat 32 (best (pix x i) 18).2 := by
  obtain ⟨s0, s1, s2, s3, s4, s5, s6, s7, s8, s9, s10, s11, s12, s13, s14, s15, s16, s17, s18⟩ := slices x i
  obtain ⟨m11, l11⟩ := part2_at x i
  have m12 : (k0_pay46 (k0_pay4 x) (mid2 x)) i = (best (pix x i) 12).1 := step_max _ 11 (k0_pay44 (k0_pay4 x)) (mid2 x) i s12 m11
  have l12 := step_lab _ 11 (k0_pay44 (k0_pay4 x)) (mid2 x) _ 12#32 i s12 m11 rfl l11
  have m13 : (k0_pay49 (k0_pay4 x) (mid2 x)) i = (best (pix x i) 13).1 := step_max _ 12 (k0_pay47 (k0_pay4 x)) (k0_pay46 (k0_pay4 x) (mid2 x)) i s13 m12
  have l13 := step_lab _ 12 (k0_pay47 (k0_pay4 x)) (k0_pay46 (k0_pay4 x) (mid2 x)) _ 13#32 i s13 m12 rfl l12
  have m14 : (k0_pay52 (k0_pay4 x) (mid2 x)) i = (best (pix x i) 14).1 := step_max _ 13 (k0_pay50 (k0_pay4 x)) (k0_pay49 (k0_pay4 x) (mid2 x)) i s14 m13
  have l14 := step_lab _ 13 (k0_pay50 (k0_pay4 x)) (k0_pay49 (k0_pay4 x) (mid2 x)) _ 14#32 i s14 m13 rfl l13
  have m15 : (k0_pay55 (k0_pay4 x) (mid2 x)) i = (best (pix x i) 15).1 := step_max _ 14 (k0_pay53 (k0_pay4 x)) (k0_pay52 (k0_pay4 x) (mid2 x)) i s15 m14
  have l15 := step_lab _ 14 (k0_pay53 (k0_pay4 x)) (k0_pay52 (k0_pay4 x) (mid2 x)) _ 15#32 i s15 m14 rfl l14
  have m16 : (k0_pay58 (k0_pay4 x) (mid2 x)) i = (best (pix x i) 16).1 := step_max _ 15 (k0_pay56 (k0_pay4 x)) (k0_pay55 (k0_pay4 x) (mid2 x)) i s16 m15
  have l16 := step_lab _ 15 (k0_pay56 (k0_pay4 x)) (k0_pay55 (k0_pay4 x) (mid2 x)) _ 16#32 i s16 m15 rfl l15
  have m17 : (select (k0_pay60 (k0_pay4 x) (mid2 x)) (k0_pay59 (k0_pay4 x)) (k0_pay58 (k0_pay4 x) (mid2 x))) i = (best (pix x i) 17).1 := step_max _ 16 (k0_pay59 (k0_pay4 x)) (k0_pay58 (k0_pay4 x) (mid2 x)) i s17 m16
  have l17 := step_lab _ 16 (k0_pay59 (k0_pay4 x)) (k0_pay58 (k0_pay4 x) (mid2 x)) _ 17#32 i s17 m16 rfl l16
  have l18 := step_lab _ 17 (k0_pay63 (k0_pay4 x)) (select (k0_pay60 (k0_pay4 x) (mid2 x)) (k0_pay59 (k0_pay4 x)) (k0_pay58 (k0_pay4 x) (mid2 x))) _ 18#32 i s18 m17 rfl l17
  exact l18

/-- Each pixel's sum of squares, as the body adds it up. -/
theorem ssq_at (x : Vec Ideal S1x19x8x1024 .f32) (i : S8x1024.Idx) :
    ssq3 x i + k0_pay63 (k0_pay4 x) i * k0_pay63 (k0_pay4 x) i
      = ∑ k ∈ Finset.range 19, pix x i k * pix x i k := by
  obtain ⟨s0, s1, s2, s3, s4, s5, s6, s7, s8, s9, s10, s11, s12, s13, s14, s15, s16, s17, s18⟩ := slices x i
  simp only [Finset.sum_range_succ, Finset.sum_range_zero, zero_add]
  rw [← s0, ← s1, ← s2, ← s3, ← s4, ← s5, ← s6, ← s7, ← s8, ← s9, ← s10, ← s11, ← s12, ← s13, ← s14,
    ← s15, ← s16, ← s17, ← s18]
  rfl

/-- A choice by the equality of two small words is the choice by the numbers' equality. -/
theorem sel_word {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select
  exact if_congr (WordCmp.cmpi_eq_ofNat_eq_one_iff ha hb) rfl rfl

/-- The flag of two small words' equality, widened and taken as a number. -/
theorem num_word (a b : ℕ) (ha : a < 2 ^ 32) (hb : b < 2 ^ 32) :
    FloatOps.sitofp (F := Ideal) FTy.f32 (BitVec.setWidth 32 (IntOp.cmpi .eq (BitVec.ofNat 32 a) (BitVec.ofNat 32 b)))
      = (if a = b then 1 else 0 : EReal) := by
  rw [WordCmp.cmpi_eq_ofNat ha hb]
  show (((BitVec.setWidth 32 (BitVec.ofBool (decide (a = b)))).toInt : ℝ) : EReal) = _
  by_cases h : a = b <;> simp [h]

/-- The counts' payload, over any labels. -/
theorem counts_gen (a l : IVec S8x1024 32) (c : IVec S8x1024 1) (old : Vec Ideal S8x19 .f32) (r : ℕ) (hr : r < 4)
    (L : S8x1024.Idx → ℕ) (hL : ∀ i, Scalar.select (c i) (a i) (l i) = BitVec.ofNat 32 (L i)) (hb : ∀ i, L i ≤ 18)
    (n : Fin 8) (k : Fin 19) :
    k0_pay67 (BitVec.ofNat 32 r) l c a old (ix2 n k) = old (ix2 n k) +
      if n.val = r then ∑ h : Fin 8, ∑ w : Fin 1024, if L (ix2 h w) = k.val then (1 : EReal) else 0 else 0 := by
  unfold k0_pay67 k0_pay66
  pointwise
  rw [sel_word _ _ (by omega) (by omega)]
  simp only [hL]
  congr 1
  refine if_congr Iff.rfl (Finset.sum_congr rfl fun h _ => Finset.sum_congr rfl fun w _ => ?_) rfl
  exact num_word _ _ (lt_of_le_of_lt (hb _) (by decide)) (by omega)

/-- The sums' payload, over any labels. -/
theorem sums_gen (a l : IVec S8x1024 32) (c : IVec S8x1024 1) (u v : FVec Ideal S8x1024 .f32)
    (old : Vec Ideal S8x19 .f32) (r : ℕ) (hr : r < 4)
    (L : S8x1024.Idx → ℕ) (hL : ∀ i, Scalar.select (c i) (a i) (l i) = BitVec.ofNat 32 (L i)) (hb : ∀ i, L i ≤ 18)
    (n : Fin 8) (k : Fin 19) :
    k0_pay68 (BitVec.ofNat 32 r) l u v c a old (ix2 n k) = old (ix2 n k) +
      if n.val = r then ∑ h : Fin 8, ∑ w : Fin 1024,
        if L (ix2 h w) = k.val then u (ix2 h w) + v (ix2 h w) * v (ix2 h w) else (0 : EReal) else 0 := by
  unfold k0_pay68 k0_pay66
  pointwise
  rw [sel_word _ _ (by omega) (by omega)]
  simp only [hL]
  congr 1
  refine if_congr Iff.rfl (Finset.sum_congr rfl fun h _ => Finset.sum_congr rfl fun w _ => ?_) rfl
  exact sel_word _ _ (lt_of_le_of_lt (hb _) (by decide)) (by omega) _ _

/-- The counts after a block: in the block's row, each class gains the number of its pixels. -/
theorem counts_at (r : ℕ) (hr : r < 4) (x : Vec Ideal S1x19x8x1024 .f32) (old : Vec Ideal S8x19 .f32)
    (n : Fin 8) (k : Fin 19) :
    newCounts (BitVec.ofNat 32 r) x old (ix2 n k) = old (ix2 n k) +
      if n.val = r then ∑ h : Fin 8, ∑ w : Fin 1024,
        if (best (pix x (ix2 h w)) 18).2 = k.val then (1 : EReal) else 0 else 0 :=
  counts_gen k0_pay65 (lab3 x) (last3 x) old r hr (fun i => (best (pix x i) 18).2) (label_at x)
    (fun i => (best_at (pix x i) 18).1) n k

/-- The sums after a block: in the block's row, each class gains its pixels' sums of squares. -/
theorem sums_at (r : ℕ) (hr : r < 4) (x : Vec Ideal S1x19x8x1024 .f32) (old : Vec Ideal S8x19 .f32)
    (n : Fin 8) (k : Fin 19) :
    newSums (BitVec.ofNat 32 r) x old (ix2 n k) = old (ix2 n k) +
      if n.val = r then ∑ h : Fin 8, ∑ w : Fin 1024,
        if (best (pix x (ix2 h w)) 18).2 = k.val then
          ∑ c ∈ Finset.range 19, pix x (ix2 h w) c * pix x (ix2 h w) c else (0 : EReal)
      else 0 := by
  simp only [← ssq_at]
  exact sums_gen k0_pay65 (lab3 x) (last3 x) (ssq3 x) (k0_pay63 (k0_pay4 x)) old r hr
    (fun i => (best (pix x i) 18).2) (label_at x) (fun i => (best_at (pix x i) 18).1) n k

/-- The last point's scalar from the two tables. -/
theorem fin_at (a b : Vec Ideal S8x19 .f32) :
    k0_pay1 (F := Ideal) a b =
      Ideal.div (0 - ∑ n : Fin 8, ∑ k : Fin 19, Ideal.div (b (ix2 n k))
        (max (Ideal.pow (a (ix2 n k)) (Ideal.ofBits .f32 0x3E4CCCCD#32) *
          Ideal.pow (∑ k' : Fin 19, a (ix2 n k')) (Ideal.ofBits .f32 0x3F4CCCCD#32)) 1))
        (Ideal.ofBits .f32 0x42980000#32) := by
  unfold k0_pay1
  pointwise

end Cert.KernelIdeal.Own

end
-- ==== Proof.Scratch.lean ====
module

public import proofs.«01_k».proof.Proof.Block
public import proofs.«01_k».proof.Proof.Model
public import proofs.«01_k».proof.Proof.Gen.KernelIdeal.Frame
public import Idealize.ShloMosaic.Lib.Pipeline.ReadBack

@[expose] public section

set_option maxRecDepth 16384

/-! What the two carried tables hold after the last point, and what the last point writes. -/

noncomputable section

namespace Cert.KernelIdeal.Own

open Idealize.ShloMosaic Idealize.ShloMosaic.TcCoe Idealize.ShloMosaic.Tactic Idealize.SL.Sem
open Cert.KernelIdeal.Gen Cert.Own

variable (m : (ℓ : Loc nD τ sig) → Buf (Elt Ideal) ℓ)

/-- The argument as scores. -/
abbrev scores (c : Dev nD) : Scores := fun n k h w => m ((c : Thread nD τ).loc main_arg0) (ix4 n k h w)

/-- The grid's first coordinate at a point: the image. -/
theorem image_at : ∀ t : Fin cfg0.N, (grid0.coords t 0).val = t.val / 64 := by decide +kernel

/-- Which block a point reads: its image, all classes, its strip of eight rows, all columns. -/
theorem idx_in : ∀ t : Fin cfg0.N, win0_0.index t = ![t.val / 64, 0, t.val % 64, 0] := by decide +kernel

/-- A point's block, read at a pixel: the argument's scores at the image and the strip's row. -/
theorem pix_block (c : Dev nD) (t : Fin cfg0.N) (r : Fin 8) (w : Fin 1024)
    (hn : t.val / 64 < 4) (hh : t.val % 64 * 8 + r.val < 512) :
    pix (iblk m c 0 t) (ix2 r w) = pixel (scores m c) ⟨t.val / 64, hn⟩ ⟨t.val % 64 * 8 + r.val, hh⟩ w := by
  funext k
  unfold pix pixel
  split_ifs with hk
  · blk_ext [iblk, V, idx_in t]
  · rfl

/-- What a point adds to the counts. -/
def countTerm (c : Dev nD) (t : Fin cfg0.N) (j : S8x19.Idx) : EReal :=
  if (j 0).val = t.val / 64 then ∑ r : Fin 8, ∑ w : Fin 1024,
    if (best (pix (iblk m c 0 t) (ix2 r w)) 18).2 = (j 1).val then 1 else 0 else 0

/-- What a point adds to the sums. -/
def sumTerm (c : Dev nD) (t : Fin cfg0.N) (j : S8x19.Idx) : EReal :=
  if (j 0).val = t.val / 64 then ∑ r : Fin 8, ∑ w : Fin 1024,
    if (best (pix (iblk m c 0 t) (ix2 r w)) 18).2 = (j 1).val then
      ∑ k ∈ Finset.range 19, pix (iblk m c 0 t) (ix2 r w) k * pix (iblk m c 0 t) (ix2 r w) k else 0 else 0

/-- A block adds its counts. -/
theorem counts_step (c : Dev nD) (t : Fin cfg0.N) (old : Vec Ideal S8x19 .f32) (j : S8x19.Idx) :
    newCounts (BitVec.ofNat 32 (grid0.coords t 0).val) (iblk m c 0 t) old j = old j + countTerm m c t j := by
  have hN : t.val < 256 := lt_of_lt_of_eq t.isLt (show cfg0.N = 256 from N_0)
  idx_vars j
  rw [image_at t]
  exact counts_at _ (by omega) _ _ _ _

/-- A block adds its sums. -/
theorem sums_step (c : Dev nD) (t : Fin cfg0.N) (old : Vec Ideal S8x19 .f32) (j : S8x19.Idx) :
    newSums (BitVec.ofNat 32 (grid0.coords t 0).val) (iblk m c 0 t) old j = old j + sumTerm m c t j := by
  have hN : t.val < 256 := lt_of_lt_of_eq t.isLt (show cfg0.N = 256 from N_0)
  idx_vars j
  rw [image_at t]
  exact sums_at _ (by omega) _ _ _ _

/-- The first point clears the counts. -/
theorem zero_counts (j : S8x19.Idx) : (k0_pay2 (F := Ideal)) j = 0 := by
  idx_vars j
  unfold k0_pay2
  pointwise

/-- The first point clears the sums. -/
theorem zero_sums (j : S8x19.Idx) : (k0_pay3 (F := Ideal)) j = 0 := by
  idx_vars j
  unfold k0_pay3
  pointwise

/-- The counts after the first point. -/
theorem counts_first (c : Dev nD) (t : Fin cfg0.N) (h0 : t.val % 256 = 0) (j : S8x19.Idx) :
    (outsAt0 m c t.val t.isLt).2.1 j = 0 + countTerm m c t j := by
  rw [outsAt0_A m c t h0 (by omega)]
  frame_out
  exact (counts_step m c t _ j).trans (by rw [zero_counts])

/-- The counts after any later point. -/
theorem counts_next (c : Dev nD) (t : Fin cfg0.N) (h0 : ¬t.val % 256 = 0) (j : S8x19.Idx) :
    (outsAt0 m c t.val t.isLt).2.1 j
      = (outsAt0 m c (t.val - 1) (Nat.lt_of_le_of_lt (Nat.sub_le _ _) t.isLt)).2.1 j + countTerm m c t j := by
  by_cases h1 : t.val % 256 = 255
  · rw [outsAt0_C m c t h0 h1]
    frame_out
    simp only [read_unread_whole]
    exact counts_step m c t _ j
  · rw [outsAt0_B m c t h0 h1]
    frame_out
    simp only [read_unread_whole]
    exact counts_step m c t _ j

/-- The sums after the first point. -/
theorem sums_first (c : Dev nD) (t : Fin cfg0.N) (h0 : t.val % 256 = 0) (j : S8x19.Idx) :
    (outsAt0 m c t.val t.isLt).2.2 j = 0 + sumTerm m c t j := by
  rw [outsAt0_A m c t h0 (by omega)]
  frame_out
  exact (sums_step m c t _ j).trans (by rw [zero_sums])

/-- The sums after any later point. -/
theorem sums_next (c : Dev nD) (t : Fin cfg0.N) (h0 : ¬t.val % 256 = 0) (j : S8x19.Idx) :
    (outsAt0 m c t.val t.isLt).2.2 j
      = (outsAt0 m c (t.val - 1) (Nat.lt_of_le_of_lt (Nat.sub_le _ _) t.isLt)).2.2 j + sumTerm m c t j := by
  by_cases h1 : t.val % 256 = 255
  · rw [outsAt0_C m c t h0 h1]
    frame_out
    simp only [read_unread_whole]
    exact sums_step m c t _ j
  · rw [outsAt0_B m c t h0 h1]
    frame_out
    simp only [read_unread_whole]
    exact sums_step m c t _ j

/-- The last point writes the scalar of the two tables it leaves. -/
theorem last_writes (c : Dev nD) (t : Fin cfg0.N) (h1 : t.val % 256 = 255) (j : S1x1.Idx) :
    (outsAt0 m c t.val t.isLt).1 j
      = k0_pay1 (F := Ideal) (outsAt0 m c t.val t.isLt).2.1 (outsAt0 m c t.val t.isLt).2.2 := by
  rw [outsAt0_C m c t (by omega) h1]
  frame_out

/-- The grid's last point. -/
def lastPt : Fin cfg0.N := ⟨255, lt_of_lt_of_eq (by decide) N_0.symm⟩

/-- The counts after the last point: every point's term. -/
theorem counts_last (c : Dev nD) (j : S8x19.Idx) :
    (outsAt0 m c lastPt.val lastPt.isLt).2.1 j = ∑ t : Fin cfg0.N, countTerm m c t j :=
  (Pipeline.eq_sum_fin_of_reset_step_apply_last (fun n h => (outsAt0 m c n h).2.1) 256 (fun _ => (0 : EReal))
    (countTerm m c) (counts_first m c) (counts_next m c) (le_of_eq N_0) lastPt N_0.symm j).trans (zero_add _)

/-- The sums after the last point: every point's term. -/
theorem sums_last (c : Dev nD) (j : S8x19.Idx) :
    (outsAt0 m c lastPt.val lastPt.isLt).2.2 j = ∑ t : Fin cfg0.N, sumTerm m c t j :=
  (Pipeline.eq_sum_fin_of_reset_step_apply_last (fun n h => (outsAt0 m c n h).2.2) 256 (fun _ => (0 : EReal))
    (sumTerm m c) (sums_first m c) (sums_next m c) (le_of_eq N_0) lastPt N_0.symm j).trans (zero_add _)

end Cert.KernelIdeal.Own

end
-- ==== Proof.Out.lean ====
module

public import proofs.«01_k».proof.Proof.Scratch

@[expose] public section

set_option maxRecDepth 16384

/-! The carried tables as counts and sums over whole images, and the kernel's result. -/

noncomputable section

namespace Cert.KernelIdeal.Own

open Idealize.ShloMosaic Idealize.ShloMosaic.TcCoe Idealize.ShloMosaic.Tactic Idealize.SL.Sem
open Cert.KernelIdeal.Gen Cert.Own

variable (m : (ℓ : Loc nD τ sig) → Buf (Elt Ideal) ℓ)

/-- Terms added in the row of their image, strip by strip, make the image's total; rows past the
    images stay zero. -/
theorem table_total (F : Fin 4 → Fin 512 → EReal) (T : Fin cfg0.N → Fin 8 → EReal)
    (hT : ∀ (t : Fin cfg0.N) (r : Fin 8) (hn : t.val / 64 < 4) (hh : t.val % 64 * 8 + r.val < 512),
      T t r = F ⟨t.val / 64, hn⟩ ⟨t.val % 64 * 8 + r.val, hh⟩) (n : Fin 8) :
    ∑ t : Fin cfg0.N, (if n.val = t.val / 64 then ∑ r : Fin 8, T t r else 0)
      = if hn : n.val < 4 then ∑ h : Fin 512, F ⟨n.val, hn⟩ h else 0 := by
  have e : ∀ t : Fin cfg0.N, (if n.val = t.val / 64 then ∑ r : Fin 8, T t r else 0)
      = ∑ r : Fin 8, if n.val = t.val / 64 then T t r else 0 := fun t => by
    split_ifs
    · rfl
    · exact Finset.sum_const_zero.symm
  simp only [e]
  rw [Fin.sum_points_lanes_congr (A := 4) (L := 512) (g := fun a l => if n.val = a.val then F a l else 0) 64
    (fun t k ha hl => by rw [hT t k ha hl]) N_0 rfl]
  split_ifs with hn
  · rw [Finset.sum_eq_single ⟨n.val, hn⟩]
    · simp
    · intro a _ ha
      refine Finset.sum_eq_zero fun l _ => if_neg fun h => ha (Fin.ext h.symm)
    · intro h; exact absurd (Finset.mem_univ _) h
  · refine Finset.sum_eq_zero fun a _ => Finset.sum_eq_zero fun l _ => if_neg fun h => hn (lt_of_eq_of_lt h a.isLt)

/-- The counts after the last point: image by image, class by class. -/
theorem counts_table (c : Dev nD) (n : Fin 8) (k : Fin 19) :
    (outsAt0 m c lastPt.val lastPt.isLt).2.1 (ix2 n k)
      = if hn : n.val < 4 then cnt (scores m c) ⟨n.val, hn⟩ k else 0 := by
  rw [counts_last]
  refine table_total (fun a l => ∑ w : Fin 1024, if lab (scores m c) a l w = k.val then 1 else 0)
    (fun t r => ∑ w : Fin 1024, if (best (pix (iblk m c 0 t) (ix2 r w)) 18).2 = k.val then 1 else 0)
    (fun t r hn hh => ?_) n
  refine Finset.sum_congr rfl fun w _ => ?_
  rw [pix_block m c t r w hn hh]
  rfl

/-- The sums after the last point: image by image, class by class. -/
theorem sums_table (c : Dev nD) (n : Fin 8) (k : Fin 19) :
    (outsAt0 m c lastPt.val lastPt.isLt).2.2 (ix2 n k)
      = if hn : n.val < 4 then sqs (scores m c) ⟨n.val, hn⟩ k else 0 := by
  rw [sums_last]
  refine table_total (fun a l => ∑ w : Fin 1024, if lab (scores m c) a l w = k.val then ssq (scores m c) a l w else 0)
    (fun t r => ∑ w : Fin 1024, if (best (pix (iblk m c 0 t) (ix2 r w)) 18).2 = k.val then
      ∑ q ∈ Finset.range 19, pix (iblk m c 0 t) (ix2 r w) q * pix (iblk m c 0 t) (ix2 r w) q else 0)
    (fun t r hn hh => ?_) n
  refine Finset.sum_congr rfl fun w _ => ?_
  rw [pix_block m c t r w hn hh, ssq_range]
  rfl

/-- The loss as the kernel forms it from the scores. -/
def kernelLoss (X : Scores) : EReal :=
  Ideal.div (0 - ∑ n : Fin 8, ∑ k : Fin 19,
      Ideal.div (if hn : n.val < 4 then sqs X ⟨n.val, hn⟩ k else 0)
        (denom (fun j => if hn : n.val < 4 then cnt X ⟨n.val, hn⟩ j else 0) k))
    (Ideal.ofBits .f32 0x42980000#32)

/-- The kernel's output array after the run holds the loss. -/
theorem out_array (c : Dev nD) :
    (dats m 0 c).arrAt 1 cfg0.N = fun _ => kernelLoss (scores m c) := by
  refine (dats m 0 c).arrAt_eq_of_after_last 1 lastPt (by decide +kernel) _ fun j => ?_
  blk_simp
  rw [after0_1, last_writes m c lastPt rfl, fin_at]
  simp only [counts_table, sums_table]
  rfl

/-- The kernel's whole run: the result is the loss, the argument is unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v1) = (fun _ => kernelLoss (scores m c))
      ∧ r.2.mem ((c.tc : Thread nD τ).loc main_arg0) = m ((c.tc : Thread nD τ).loc main_arg0)) := by
  run_from run_main m g
  show StableHlo.after [StableHlo.reshape main_v0 main_v1 (rfl : (.f32 : EltTy) = .f32) shapeCasts_S1x1_S_] (Pipeline.withArrays (cfgs 0).spec c (V0 m c) fun w => (dats m 0 c).arrAt w (cfgs 0).N) (Proc.devRef .tc main_v1) = _
  after_results
  have e : Pipeline.withArrays (cfgs 0).spec c (V0 m c) (fun w => (dats m 0 c).arrAt w (cfgs 0).N)
      (Proc.devRef .tc main_v0) = fun _ => kernelLoss (scores m c) :=
    (Pipeline.withArrays_arr (cfgs 0).spec (by decide) c (V0 m c)
      (fun w => (dats m 0 c).arrAt w (cfgs 0).N) 1).trans (out_array m c)
  funext i
  exact congrFun e _

end Cert.KernelIdeal.Own

end
-- ==== Proof.Equation.lean ====
module

public import proofs.«01_k».proof.Proof.RefValue
public import proofs.«01_k».proof.Proof.Out

@[expose] public section

/-! The equation of the two results: the reference's sum over the pixels, grouped by label. -/

noncomputable section

namespace Cert.Own

open Idealize.ShloMosaic

/-- A square is not negative. -/
theorem square_nonneg (x : EReal) : 0 ≤ x * x := by
  rcases le_total 0 x with h | h
  · exact mul_nonneg h h
  · rw [← neg_mul_neg]
    have : 0 ≤ -x := EReal.neg_nonneg.mpr h
    exact mul_nonneg this this

/-- A sum of terms that are not negative, times a factor, is the sum of the terms times the factor. -/
theorem sum_times {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

/-- A pixel's sum of squares is not negative. -/
theorem ssq_nonneg (X : Scores) (n : Fin 4) (h : Fin 512) (w : Fin 1024) : 0 ≤ ssq X n h w :=
  Finset.sum_nonneg fun _ _ => square_nonneg _

/-- A denominator is at least one. -/
theorem one_le_denom (c : Fin 19 → EReal) (k : Fin 19) : 1 ≤ denom c k := le_max_right _ _

/-- Dividing by a denominator is multiplying by its inverse. -/
theorem div_denom (a : EReal) (c : Fin 19 → EReal) (k : Fin 19) : Ideal.div a (denom c k) = a * (denom c k)⁻¹ := by
  unfold Ideal.div
  exact if_neg (ne_of_gt (lt_of_lt_of_le zero_lt_one (one_le_denom c k)))

/-- An image's sums over the labels, each times its label's factor, are the pixels' sums of squares,
    each times the factor of the pixel's label. -/
theorem by_label (X : Scores) (n : Fin 4) (d : Fin 19 → EReal) :
    ∑ k : Fin 19, sqs X n k * d k
      = ∑ h : Fin 512, ∑ w : Fin 1024, ssq X n h w * d ⟨lab X n h w, lab_lt X n h w⟩ := by
  have e : ∀ k : Fin 19, sqs X n k * d k
      = ∑ h : Fin 512, ∑ w : Fin 1024, if ⟨lab X n h w, lab_lt X n h w⟩ = k then ssq X n h w * d k else 0 := by
    intro k
    have hn : ∀ h w, 0 ≤ if lab X n h w = k.val then ssq X n h w else 0 := fun h w => by
      split_ifs
      · exact ssq_nonneg X n h w
      · exact le_rfl
    unfold sqs
    rw [sum_times _ _ fun h => Finset.sum_nonneg fun w _ => hn h w]
    refine Finset.sum_congr rfl fun h _ => ?_
    rw [sum_times _ _ fun w => hn h w]
    refine Finset.sum_congr rfl fun w _ => ?_
    rw [ite_mul, zero_mul]
    exact if_congr (Fin.ext_iff (a := ⟨lab X n h w, lab_lt X n h w⟩) (b := k)).symm rfl rfl
  simp only [e]
  rw [Finset.sum_comm]
  refine Finset.sum_congr rfl fun h _ => ?_
  rw [Finset.sum_comm]
  refine Finset.sum_congr rfl fun w _ => ?_
  rw [Finset.sum_ite_eq]
  exact if_pos (Finset.mem_univ _)

/-- An image's part of the reference's sum, pixel by pixel. -/
theorem by_pixel (X : Scores) (n : Fin 4) (d : Fin 19 → EReal) :
    ∑ c : Fin 19, ∑ h : Fin 512, ∑ w : Fin 1024, X n c h w * X n c h w * d ⟨lab X n h w, lab_lt X n h w⟩
      = ∑ h : Fin 512, ∑ w : Fin 1024, ssq X n h w * d ⟨lab X n h w, lab_lt X n h w⟩ := by
  rw [Finset.sum_comm]
  refine Finset.sum_congr rfl fun h _ => ?_
  rw [Finset.sum_comm]
  refine Finset.sum_congr rfl fun w _ => ?_
  unfold ssq
  rw [sum_times _ _ fun c => square_nonneg _]

/-- A sum over the table's eight rows of which only the images' rows count. -/
theorem rows (f : Fin 8 → EReal) (g : Fin 4 → EReal) (hf : ∀ n : Fin 8, f n = if hn : n.val < 4 then g ⟨n.val, hn⟩ else 0) :
    ∑ n : Fin 8, f n = ∑ n : Fin 4, g n := by
  rw [Fin.sum_univ_add (a := 4) (b := 4) f]
  have h1 : ∀ i : Fin 4, f (Fin.castAdd 4 i) = g i := fun i => by
    rw [hf, dif_pos (show (Fin.castAdd 4 i).val < 4 from i.isLt)]
    rfl
  have h2 : ∀ i : Fin 4, f (Fin.natAdd 4 i) = 0 := fun i => by
    rw [hf, dif_neg (show ¬ (Fin.natAdd 4 i).val < 4 from by simp)]
  simp only [h1, h2, Finset.sum_const_zero, add_zero]

/-- The two results are equal. -/
theorem equation (X : Scores) : Cert.KernelIdeal.Own.kernelLoss X = refLoss X := by
  unfold Cert.KernelIdeal.Own.kernelLoss refLoss
  refine congrArg (fun s => Ideal.div s _) ?_
  rw [sub_eq_add_neg, zero_add]
  refine congrArg (fun s => -s) ?_
  rw [rows _ (fun n => ∑ k : Fin 19, sqs X n k * (denom (cnt X n) k)⁻¹)]
  · refine Finset.sum_congr rfl fun n _ => ?_
    rw [by_label X n (fun k => (denom (cnt X n) k)⁻¹), ← by_pixel X n (fun k => (denom (cnt X n) k)⁻¹)]
    simp only [div_denom, one_mul]
  · intro n
    simp only [div_denom]
    by_cases hn : n.val < 4
    · simp only [hn, dif_pos]
    · simp only [hn, dif_neg, not_false_eq_true, zero_mul, Finset.sum_const_zero]

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_ignored
public import proofs.«01_k».proof.Proof.Mask
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference leaves its argument array unchanged and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  θ_run_mono (Cert.ReferenceIdeal.Own.run m g) fun r h => ⟨fun c => (h c).2, sem_eq_zero_of_no_sems (by decide) r.2⟩

/-- Where no pixel is ignored the kernel and the reference end with the same result. -/
theorem value : Cert.algebraic_KernelIdeal_ReferenceIdeal_pre_no_ignored
    (hKernelIdeal := Cert.KernelIdeal.Gen.facts) (hReferenceIdeal := Cert.ReferenceIdeal.Gen.facts)
    (hPre_no_ignored := Cert.Pre_no_ignored.Gen.facts) := by
  intro m g m' g' hp hm
  refine ⟨fun c _ => Cert.KernelIdeal.Own.kernelLoss (Cert.KernelIdeal.Own.scores m c), Cert.KernelIdeal.Own.run m g,
    θ_run_mono (Cert.ReferenceIdeal.Own.run m' g') fun r h c => ⟨(h c).1.trans ?_, (h c).2⟩⟩
  rw [hm c]
  rw [Cert.ReferenceIdeal.Own.lossOf_eq _ (Cert.ReferenceIdeal.Own.mask_all _ (hp c))]
  funext _
  exact (Cert.Own.equation _).symm

/-- The frames, the idealization and the equality of the results. -/
theorem claim : Cert.Claim :=
  ⟨Cert.Kernel.Gen.facts, Cert.KernelIdeal.Gen.facts, Cert.ReferenceIdeal.Gen.facts, Cert.Pre_no_ignored.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    value⟩

end Cert.Proof

end
